-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_and_keys [hPre_finite_queries_and_keys : Cert.Pre_finite_queries_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_and_keys.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Four (m : (ℓ : Loc Cert.Four.nD Cert.Four.τ Cert.Four.sig) → Buf (Elt Bits) ℓ) : Prop :=
  True

def Pre_FourIdeal (m : (ℓ : Loc Cert.FourIdeal.nD Cert.FourIdeal.τ Cert.FourIdeal.sig) → Buf (Elt Ideal) ℓ) : Prop :=
  True

def Pre_FourRefIdeal (m : (ℓ : Loc Cert.FourRefIdeal.nD Cert.FourRefIdeal.τ Cert.FourRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_queries_and_keys [hAttnIdeal : Cert.AttnIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_Four [hFour : Cert.Four.Facts] : Prop :=
  ∀ (m : (ℓ : Loc Cert.Four.nD Cert.Four.τ Cert.Four.sig) → Buf (Elt Bits) ℓ) (g : Dev Cert.Four.nD → PrngReg), Pre_Four m →
    θ_run (Cert.Four.defs (F := Bits)) (onTc (τ := Cert.Four.τ) (Cert.Four.main (F := Bits))) ⟨m, fun _ => 0, g⟩ (fun r => (∀ c : Dev Cert.Four.nD,
      r.2.mem ((c.tc : Thread Cert.Four.nD Cert.Four.τ).loc Cert.Four.main_arg0) = m ((c.tc : Thread Cert.Four.nD Cert.Four.τ).loc Cert.Four.main_arg0)
      ∧ r.2.mem ((c.tc : Thread Cert.Four.nD Cert.Four.τ).loc Cert.Four.main_arg1) = m ((c.tc : Thread Cert.Four.nD Cert.Four.τ).loc Cert.Four.main_arg1))
      ∧ r.2.sem = fun _ => 0)

def quiescent_FourIdeal [hFourIdeal : Cert.FourIdeal.Facts] : Prop :=
  ∀ (m : (ℓ : Loc Cert.FourIdeal.nD Cert.FourIdeal.τ Cert.FourIdeal.sig) → Buf (Elt Ideal) ℓ) (g : Dev Cert.FourIdeal.nD → PrngReg), Pre_FourIdeal m →
    θ_run (Cert.FourIdeal.defs (F := Ideal)) (onTc (τ := Cert.FourIdeal.τ) (Cert.FourIdeal.main (F := Ideal))) ⟨m, fun _ => 0, g⟩ (fun r => (∀ c : Dev Cert.FourIdeal.nD,
      r.2.mem ((c.tc : Thread Cert.FourIdeal.nD Cert.FourIdeal.τ).loc Cert.FourIdeal.main_arg0) = m ((c.tc : Thread Cert.FourIdeal.nD Cert.FourIdeal.τ).loc Cert.FourIdeal.main_arg0)
      ∧ r.2.mem ((c.tc : Thread Cert.FourIdeal.nD Cert.FourIdeal.τ).loc Cert.FourIdeal.main_arg1) = m ((c.tc : Thread Cert.FourIdeal.nD Cert.FourIdeal.τ).loc Cert.FourIdeal.main_arg1))
      ∧ r.2.sem = fun _ => 0)

def quiescent_FourRefIdeal [hFourRefIdeal : Cert.FourRefIdeal.Facts] : Prop :=
  ∀ (m : (ℓ : Loc Cert.FourRefIdeal.nD Cert.FourRefIdeal.τ Cert.FourRefIdeal.sig) → Buf (Elt Ideal) ℓ) (g : Dev Cert.FourRefIdeal.nD → PrngReg), Pre_FourRefIdeal m →
    θ_run (Cert.FourRefIdeal.defs (F := Ideal)) (onTc (τ := Cert.FourRefIdeal.τ) (Cert.FourRefIdeal.main (F := Ideal))) ⟨m, fun _ => 0, g⟩ (fun r => (∀ c : Dev Cert.FourRefIdeal.nD,
      r.2.mem ((c.tc : Thread Cert.FourRefIdeal.nD Cert.FourRefIdeal.τ).loc Cert.FourRefIdeal.main_arg0) = m ((c.tc : Thread Cert.FourRefIdeal.nD Cert.FourRefIdeal.τ).loc Cert.FourRefIdeal.main_arg0)
      ∧ r.2.mem ((c.tc : Thread Cert.FourRefIdeal.nD Cert.FourRefIdeal.τ).loc Cert.FourRefIdeal.main_arg1) = m ((c.tc : Thread Cert.FourRefIdeal.nD Cert.FourRefIdeal.τ).loc Cert.FourRefIdeal.main_arg1))
      ∧ r.2.sem = fun _ => 0)

def preserves_Attn_AttnIdeal : Prop :=
  True

def algebraic_AttnIdeal_AttnRefIdeal_pre_finite_queries_and_keys [hAttnIdeal : Cert.AttnIdeal.Facts] [hAttnRefIdeal : Cert.AttnRefIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v41) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def algebraic_FinalIdeal_FinalSampleRefIdeal [hFinalIdeal : Cert.FinalIdeal.Facts] [hFinalSampleRefIdeal : Cert.FinalSampleRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalIdeal m →
    (∀ c : Dev Cert.FinalIdeal.nD,
      m' ((c.tc : Thread Cert.FinalSampleRefIdeal.nD Cert.FinalSampleRefIdeal.τ).loc Cert.FinalSampleRefIdeal.main_arg0) = m ((c.tc : Thread Cert.FinalIdeal.nD Cert.FinalIdeal.τ).loc Cert.FinalIdeal.main_arg0)
      ∧ m' ((c.tc : Thread Cert.FinalSampleRefIdeal.nD Cert.FinalSampleRefIdeal.τ).loc Cert.FinalSampleRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v14) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v27) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_In_InIdeal : Prop :=
  IdealRules.named_const.Statement Cert.InIdeal.κ "query_scale" .f32 0x3E0293EE#32 (((Real.sqrt 128)⁻¹ * (Real.log 2)⁻¹ : ℝ) : EReal)

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v7) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v112) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def preserves_Four_FourIdeal : Prop :=
  True

def algebraic_FourIdeal_FourRefIdeal [hFourIdeal : Cert.FourIdeal.Facts] [hFourRefIdeal : Cert.FourRefIdeal.Facts] : Prop :=
  ∀ (m : (ℓ : Loc Cert.FourIdeal.nD Cert.FourIdeal.τ Cert.FourIdeal.sig) → Buf (Elt Ideal) ℓ) (g : Dev Cert.FourIdeal.nD → PrngReg)
    (m' : (ℓ : Loc Cert.FourRefIdeal.nD Cert.FourRefIdeal.τ Cert.FourRefIdeal.sig) → Buf (Elt Ideal) ℓ) (g' : Dev Cert.FourRefIdeal.nD → PrngReg), Pre_FourIdeal m →
    (∀ c : Dev Cert.FourIdeal.nD,
      m' ((c.tc : Thread Cert.FourRefIdeal.nD Cert.FourRefIdeal.τ).loc Cert.FourRefIdeal.main_arg0) = m ((c.tc : Thread Cert.FourIdeal.nD Cert.FourIdeal.τ).loc Cert.FourIdeal.main_arg0)
      ∧ m' ((c.tc : Thread Cert.FourRefIdeal.nD Cert.FourRefIdeal.τ).loc Cert.FourRefIdeal.main_arg1) = m ((c.tc : Thread Cert.FourIdeal.nD Cert.FourIdeal.τ).loc Cert.FourIdeal.main_arg1)) →
    ∃ (v0 : (c : Dev Cert.FourIdeal.nD) → Buf (Elt Ideal) ((c.tc : Thread Cert.FourIdeal.nD Cert.FourIdeal.τ).loc Cert.FourIdeal.main_v29)),
      θ_run (Cert.FourIdeal.defs (F := Ideal)) (onTc (τ := Cert.FourIdeal.τ) (Cert.FourIdeal.main (F := Ideal))) ⟨m, fun _ => 0, g⟩ (fun r => ∀ c : Dev Cert.FourIdeal.nD,
          r.2.mem ((c.tc : Thread Cert.FourIdeal.nD Cert.FourIdeal.τ).loc Cert.FourIdeal.main_v29) = v0 c
          ∧ r.2.mem ((c.tc : Thread Cert.FourIdeal.nD Cert.FourIdeal.τ).loc Cert.FourIdeal.main_arg0) = m ((c.tc : Thread Cert.FourIdeal.nD Cert.FourIdeal.τ).loc Cert.FourIdeal.main_arg0)
          ∧ r.2.mem ((c.tc : Thread Cert.FourIdeal.nD Cert.FourIdeal.τ).loc Cert.FourIdeal.main_arg1) = m ((c.tc : Thread Cert.FourIdeal.nD Cert.FourIdeal.τ).loc Cert.FourIdeal.main_arg1))
      ∧ θ_run (Cert.FourRefIdeal.defs (F := Ideal)) (onTc (τ := Cert.FourRefIdeal.τ) (Cert.FourRefIdeal.main (F := Ideal))) ⟨m', fun _ => 0, g'⟩ (fun r => ∀ c : Dev Cert.FourRefIdeal.nD,
          r.2.mem ((c.tc : Thread Cert.FourRefIdeal.nD Cert.FourRefIdeal.τ).loc Cert.FourRefIdeal.main_v41) = v0 c
          ∧ r.2.mem ((c.tc : Thread Cert.FourRefIdeal.nD Cert.FourRefIdeal.τ).loc Cert.FourRefIdeal.main_arg0) = m' ((c.tc : Thread Cert.FourRefIdeal.nD Cert.FourRefIdeal.τ).loc Cert.FourRefIdeal.main_arg0)
          ∧ r.2.mem ((c.tc : Thread Cert.FourRefIdeal.nD Cert.FourRefIdeal.τ).loc Cert.FourRefIdeal.main_arg1) = m' ((c.tc : Thread Cert.FourRefIdeal.nD Cert.FourRefIdeal.τ).loc Cert.FourRefIdeal.main_arg1))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hFinal : Cert.Final.Facts) (hFinalIdeal : Cert.FinalIdeal.Facts) (hFinalRefIdeal : Cert.FinalRefIdeal.Facts) (hOut : Cert.Out.Facts) (hOutIdeal : Cert.OutIdeal.Facts) (hOutRefIdeal : Cert.OutRefIdeal.Facts) (hFinalSampleRefIdeal : Cert.FinalSampleRefIdeal.Facts) (hAda : Cert.Ada.Facts) (hAdaIdeal : Cert.AdaIdeal.Facts) (hAdaRefIdeal : Cert.AdaRefIdeal.Facts) (hMod : Cert.Mod.Facts) (hModIdeal : Cert.ModIdeal.Facts) (hModRefIdeal : Cert.ModRefIdeal.Facts) (hIn : Cert.In.Facts) (hInIdeal : Cert.InIdeal.Facts) (hInRefIdeal : Cert.InRefIdeal.Facts) (hFour : Cert.Four.Facts) (hFourIdeal : Cert.FourIdeal.Facts) (hFourRefIdeal : Cert.FourRefIdeal.Facts) (hPre_finite_queries_and_keys : Cert.Pre_finite_queries_and_keys.Facts),
    quiescent_Attn (hAttn := hAttn)
    ∧ quiescent_AttnIdeal (hAttnIdeal := hAttnIdeal)
    ∧ quiescent_AttnIdeal_pre_finite_queries_and_keys (hAttnIdeal := hAttnIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Final (hFinal := hFinal)
    ∧ quiescent_FinalIdeal (hFinalIdeal := hFinalIdeal)
    ∧ quiescent_FinalRefIdeal (hFinalRefIdeal := hFinalRefIdeal)
    ∧ quiescent_Out (hOut := hOut)
    ∧ quiescent_OutIdeal (hOutIdeal := hOutIdeal)
    ∧ quiescent_OutRefIdeal (hOutRefIdeal := hOutRefIdeal)
    ∧ quiescent_FinalSampleRefIdeal (hFinalSampleRefIdeal := hFinalSampleRefIdeal)
    ∧ quiescent_Ada (hAda := hAda)
    ∧ quiescent_AdaIdeal (hAdaIdeal := hAdaIdeal)
    ∧ quiescent_AdaRefIdeal (hAdaRefIdeal := hAdaRefIdeal)
    ∧ quiescent_Mod (hMod := hMod)
    ∧ quiescent_ModIdeal (hModIdeal := hModIdeal)
    ∧ quiescent_ModRefIdeal (hModRefIdeal := hModRefIdeal)
    ∧ quiescent_In (hIn := hIn)
    ∧ quiescent_InIdeal (hInIdeal := hInIdeal)
    ∧ quiescent_InRefIdeal (hInRefIdeal := hInRefIdeal)
    ∧ quiescent_Four (hFour := hFour)
    ∧ quiescent_FourIdeal (hFourIdeal := hFourIdeal)
    ∧ quiescent_FourRefIdeal (hFourRefIdeal := hFourRefIdeal)
    ∧ preserves_Attn_AttnIdeal
    ∧ algebraic_AttnIdeal_AttnRefIdeal_pre_finite_queries_and_keys (hAttnIdeal := hAttnIdeal) (hAttnRefIdeal := hAttnRefIdeal) (hPre_finite_queries_and_keys := hPre_finite_queries_and_keys)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Final_FinalIdeal
    ∧ algebraic_FinalIdeal_FinalRefIdeal (hFinalIdeal := hFinalIdeal) (hFinalRefIdeal := hFinalRefIdeal)
    ∧ preserves_Out_OutIdeal
    ∧ algebraic_OutIdeal_OutRefIdeal (hOutIdeal := hOutIdeal) (hOutRefIdeal := hOutRefIdeal)
    ∧ algebraic_FinalIdeal_FinalSampleRefIdeal (hFinalIdeal := hFinalIdeal) (hFinalSampleRefIdeal := hFinalSampleRefIdeal)
    ∧ preserves_Ada_AdaIdeal
    ∧ algebraic_AdaIdeal_AdaRefIdeal (hAdaIdeal := hAdaIdeal) (hAdaRefIdeal := hAdaRefIdeal)
    ∧ preserves_Mod_ModIdeal
    ∧ algebraic_ModIdeal_ModRefIdeal (hModIdeal := hModIdeal) (hModRefIdeal := hModRefIdeal)
    ∧ preserves_In_InIdeal
    ∧ algebraic_InIdeal_InRefIdeal (hInIdeal := hInIdeal) (hInRefIdeal := hInRefIdeal)
    ∧ preserves_Four_FourIdeal
    ∧ algebraic_FourIdeal_FourRefIdeal (hFourIdeal := hFourIdeal) (hFourRefIdeal := hFourRefIdeal)
-- ==== Pre_finite_queries_and_keys.lean ====
abbrev S8x2048x5120 : Shape := ⟨3, ![8, 2048, 5120]⟩
abbrev S8x2048x2560 : Shape := ⟨3, ![8, 2048, 2560]⟩
abbrev S_ : Shape := ⟨0, ![]⟩

class Facts : Prop where
  slices_S8x2048x5120_S8x2048x2560_0_0_0 : S8x2048x5120.Slices ![0, 0, 0] S8x2048x2560
  bitsLt_bf16_f32 : FTy.bits .bf16 < FTy.bits .f32
  bcast_S_S8x2048x2560 : S_.BroadcastsInDim S8x2048x2560 (![] : Fin 0 → Fin S8x2048x2560.rank)

variable [Facts]

def fn {F : FTy → Type} [FloatOps F] (main_arg0 : FVec F S8x2048x5120 .bf16) : IVec S8x2048x2560 1 :=
  let main_v0 : FVec F S8x2048x2560 .bf16 := (extractStridedSlice S8x2048x2560 ![0, 0, 0] · slices_S8x2048x5120_S8x2048x2560_0_0_0) main_arg0
  let main_v1 : FVec F S8x2048x2560 .f32 := (extf .f32 · bitsLt_bf16_f32) main_v0
  let main_cst : FVec F S_ .f32 := constant S_ .f32 0xFF800000#32
  let main_v2 : FVec F S8x2048x2560 .f32 := broadcastInDim S8x2048x2560 ![] bcast_S_S8x2048x2560 main_cst
  let main_v3 : IVec S8x2048x2560 1 := cmpf .ogt main_v1 main_v2
  let main_cst_0 : FVec F S_ .f32 := constant S_ .f32 0x7F800000#32
  let main_v4 : FVec F S8x2048x2560 .f32 := broadcastInDim S8x2048x2560 ![] bcast_S_S8x2048x2560 main_cst_0
  let main_v5 : IVec S8x2048x2560 1 := cmpf .olt main_v1 main_v4
  let main_v6 : IVec S8x2048x2560 1 := andi main_v3 main_v5
  main_v6
-- ==== Attn.lean ====
abbrev S8x2048x5120 : Shape := ⟨3, ![8, 2048, 5120]⟩
abbrev S8x2048x2048 : Shape := ⟨3, ![8, 2048, 2048]⟩
abbrev S1x512x512 : Shape := ⟨3, ![1, 512, 512]⟩
abbrev S1x2048x128 : Shape := ⟨3, ![1, 2048, 128]⟩
abbrev S2048x128 : Shape := ⟨2, ![2048, 128]⟩
abbrev S128x2048 : Shape := ⟨2, ![128, 2048]⟩
abbrev S1024x2048 : Shape := ⟨2, ![1024, 2048]⟩
abbrev S8x2048 : Shape := ⟨2, ![8, 2048]⟩
abbrev S1x2048 : Shape := ⟨2, ![1, 2048]⟩
abbrev S1x512x128 : Shape := ⟨3, ![1, 512, 128]⟩
abbrev S512x128 : Shape := ⟨2, ![512, 128]⟩
abbrev S128x512 : Shape := ⟨2, ![128, 512]⟩
abbrev S1x1024x128 : Shape := ⟨3, ![1, 1024, 128]⟩
abbrev S1024x128 : Shape := ⟨2, ![1024, 128]⟩
abbrev S2048 : Shape := ⟨1, ![2048]⟩
abbrev S16x2048 : Shape := ⟨2, ![16, 2048]⟩
abbrev S128x1024 : Shape := ⟨2, ![128, 1024]⟩

abbrev nBuf : Space → Nat
  | .hbm => 2
  | .vmem => 19
  | .smem => 0
  | _ => 0

abbrev bufTy : (tb : Table) → Fin (tcTables nBuf tb) → BufTy
  | .hbm, ⟨0, _⟩ => ⟨S8x2048x5120, .bf16⟩
  | .hbm, ⟨1, _⟩ => ⟨S8x2048x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x512, .bf16⟩
  | .local _ .vmem, ⟨7, _⟩ => ⟨S1x512x512, .bf16⟩
  | .local _ .vmem, ⟨8, _⟩ => ⟨S2048x128, .bf16⟩
  | .local _ .vmem, ⟨9, _⟩ => ⟨S128x2048, .bf16⟩
  | .local _ .vmem, ⟨10, _⟩ => ⟨S1024x2048, .f32⟩
  | .local _ .vmem, ⟨11, _⟩ => ⟨S1024x2048, .f32⟩
  | .local _ .vmem, ⟨12, _⟩ => ⟨S8x2048, .f32⟩
  | .local _ .vmem, ⟨13, _⟩ => ⟨S8x2048, .f32⟩
  | .local _ .vmem, ⟨14, _⟩ => ⟨S1024x2048, .bf16⟩
  | .local _ .vmem, ⟨15, _⟩ => ⟨S1024x2048, .bf16⟩
  | .local _ .vmem, ⟨16, _⟩ => ⟨S1x2048, .f32⟩
  | .local _ .vmem, ⟨17, _⟩ => ⟨S1x2048, .f32⟩
  | .local _ .vmem, ⟨18, _⟩ => ⟨S128x2048, .f32⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32_22 : BitVec 32 := 0#32
  c0_i32_22
def k0_mult2 : BitVec 32 :=
  let c1024_i32 : BitVec 32 := 1024#32
  c1024_i32
def k0_mult3 : BitVec 32 :=
  let c0_i32_523 : BitVec 32 := 0#32
  c0_i32_523
def k0_mult4 : BitVec 32 :=
  let c1024_i32_532 : BitVec 32 := 1024#32
  c1024_i32_532
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x2048x5120 : Shape := ⟨3, ![8, 2048, 5120]⟩
abbrev S8x2048x2048 : Shape := ⟨3, ![8, 2048, 2048]⟩
abbrev S_ : Shape := ⟨0, ![]⟩
abbrev S8x2048x512 : Shape := ⟨3, ![8, 2048, 512]⟩
abbrev S8x2048x4x128 : Shape := ⟨4, ![8, 2048, 4, 128]⟩
abbrev S8x2048x4x4x128 : Shape := ⟨5, ![8, 2048, 4, 4, 128]⟩
abbrev S8x4x2048x2048x4 : Shape := ⟨5, ![8, 4, 2048, 2048, 4]⟩
abbrev S8x4x4x2048x2048 : Shape := ⟨5, ![8, 4, 4, 2048, 2048]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x5120, .bf16⟩
  | .hbm, ⟨1, _⟩ => ⟨S8x2048x5120, .f32⟩
  | .hbm, ⟨2, _⟩ => ⟨S8x2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x2048x512, .f32⟩
  | .hbm, ⟨10, _⟩ => ⟨S8x2048x4x128, .f32⟩
  | .hbm, ⟨11, _⟩ => ⟨S8x2048x512, .f32⟩
  | .hbm, ⟨12, _⟩ => ⟨S8x2048x4x128, .f32⟩
  | .hbm, ⟨13, _⟩ => ⟨S8x2048x4x4x128, .f32⟩
  | .hbm, ⟨14, _⟩ => ⟨S8x4x2048x2048x4, .f32⟩
  | .hbm, ⟨15, _⟩ => ⟨S8x4x4x2048x2048, .f32⟩
  | .hbm, ⟨16, _⟩ => ⟨S_, .f32⟩
  | .hbm, ⟨17, _⟩ => ⟨S8x4x4x2048x2048, .f32⟩
  | .hbm, ⟨18, _⟩ => ⟨S8x4x4x2048x2048, .f32⟩
  | .hbm, ⟨19, _⟩ => ⟨S_, .f32⟩
  | .hbm, ⟨20, _⟩ => ⟨S8x4x4x2048, .f32⟩
  | .hbm, ⟨21, _⟩ => ⟨S_, .f32⟩
  | .hbm, ⟨22, _⟩ => ⟨S8x4x4x2048, .f32⟩
  | .hbm, ⟨23, _⟩ => ⟨S8x4x4x2048, .f32⟩
  | .hbm, ⟨24, _⟩ => ⟨S8x4x4x2048x1, .f32⟩
  | .hbm, ⟨25, _⟩ => ⟨S8x4x4x2048x2048, .f32⟩
  | .hbm, ⟨26, _⟩ => ⟨S8x4x4x2048x2048, .f32⟩
  | .hbm, ⟨27, _⟩ => ⟨S8x4x4x2048x2048, .f32⟩
  | .hbm, ⟨28, _⟩ => ⟨S_, .f32⟩
  | .hbm, ⟨29, _⟩ => ⟨S8x4x4x2048, .f32⟩
  | .hbm, ⟨30, _⟩ => ⟨S8x4x4x2048x1, .f32⟩
  | .hbm, ⟨31, _⟩ => ⟨S8x4x4x2048x2048, .f32⟩
  | .hbm, ⟨32, _⟩ => ⟨S8x4x4x2048x2048, .f32⟩
  | .hbm, ⟨33, _⟩ => ⟨S8x4x128x4x2048, .f32⟩
  | .hbm, ⟨34, _⟩ => ⟨S8x2048x4x4x128, .f32⟩
  | .hbm, ⟨35, _⟩ => ⟨S8x2048x2048, .f32⟩
  | .hbm, ⟨36, _⟩ => ⟨S8x2048x2048, .bf16⟩
  | _, _ => ⟨S8x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Up.lean ====
abbrev S16384x4096 : Shape := ⟨2, ![16384, 4096]⟩
abbrev S2x4096x11008 : Shape := ⟨3, ![2, 4096, 11008]⟩
abbrev S16384x11008 : Shape := ⟨2, ![16384, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x11008, .f32⟩
  | .hbm, ⟨2, _⟩ => ⟨S2x4096x11008, .f32⟩
  | .hbm, ⟨3, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x4096 : Shape := ⟨2, ![16384, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x11008, .f32⟩
  | .hbm, ⟨2, _⟩ => ⟨S2x4096x11008, .f32⟩
  | .hbm, ⟨3, _⟩ => ⟨S16384x4096, .f32⟩
  | .hbm, ⟨4, _⟩ => ⟨S1x4096x11008, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S1x4096x11008, .f32⟩
  | .hbm, ⟨17, _⟩ => ⟨S4096x11008, .f32⟩
  | .hbm, ⟨18, _⟩ => ⟨S16384x11008, .f32⟩
  | .hbm, ⟨19, _⟩ => ⟨S16384x11008, .f32⟩
  | .hbm, ⟨20, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16384x11008 : Shape := ⟨2, ![16384, 11008]⟩
abbrev S2x11008x4096 : Shape := ⟨3, ![2, 11008, 4096]⟩
abbrev S16384x4096 : Shape := ⟨2, ![16384, 4096]⟩
abbrev S16x6x4096 : Shape := ⟨3, ![16, 6, 4096]⟩
abbrev S512x11008 : Shape := ⟨2, ![512, 11008]⟩
abbrev S1x11008x512 : Shape := ⟨3, ![1, 11008, 512]⟩
abbrev S512x512 : Shape := ⟨2, ![512, 512]⟩
abbrev S1x6x512 : Shape := ⟨3, ![1, 6, 512]⟩
abbrev S11008x512 : Shape := ⟨2, ![11008, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S16384x4096, .f32⟩
  | .hbm, ⟨3, _⟩ => ⟨S16x6x4096, .f32⟩
  | .hbm, ⟨4, _⟩ => ⟨S2x11008x4096, .bf16⟩
  | .hbm, ⟨5, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x6x512, .f32⟩
  | .local _ .vmem, ⟨7, _⟩ => ⟨S1x6x512, .f32⟩
  | .local _ .vmem, ⟨8, _⟩ => ⟨S512x512, .f32⟩
  | .local _ .vmem, ⟨9, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  ![v18.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S16384x11008 : Shape := ⟨2, ![16384, 11008]⟩
abbrev S2x11008x4096 : Shape := ⟨3, ![2, 11008, 4096]⟩
abbrev S16384x4096 : Shape := ⟨2, ![16384, 4096]⟩
abbrev S16x6x4096 : Shape := ⟨3, ![16, 6, 4096]⟩
abbrev S8x2048x4096 : Shape := ⟨3, ![8, 2048, 4096]⟩
abbrev S8x1x4096 : Shape := ⟨3, ![8, 1, 4096]⟩
abbrev S8x4096 : Shape := ⟨2, ![8, 4096]⟩
abbrev S1x11008x4096 : Shape := ⟨3, ![1, 11008, 4096]⟩
abbrev S11008x4096 : Shape := ⟨2, ![11008, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S16384x4096, .f32⟩
  | .hbm, ⟨3, _⟩ => ⟨S16x6x4096, .f32⟩
  | .hbm, ⟨4, _⟩ => ⟨S8x2048x4096, .f32⟩
  | .hbm, ⟨5, _⟩ => ⟨S8x1x4096, .f32⟩
  | .hbm, ⟨6, _⟩ => ⟨S8x4096, .f32⟩
  | .hbm, ⟨7, _⟩ => ⟨S8x1x4096, .f32⟩
  | .hbm, ⟨8, _⟩ => ⟨S16384x11008, .f32⟩
  | .hbm, ⟨9, _⟩ => ⟨S1x11008x4096, .f32⟩
  | .hbm, ⟨10, _⟩ => ⟨S11008x4096, .f32⟩
  | .hbm, ⟨11, _⟩ => ⟨S16384x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Final.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x4096 : Shape := ⟨2, ![16384, 4096]⟩
abbrev S4096 : Shape := ⟨1, ![4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x2048x4096, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Out.lean ====
abbrev S16384x2048 : Shape := ⟨2, ![16384, 2048]⟩
abbrev S2048 : Shape := ⟨1, ![2048]⟩
abbrev S2x4096x4096 : Shape := ⟨3, ![2, 4096, 4096]⟩
abbrev S16384x4096 : Shape := ⟨2, ![16384, 4096]⟩
abbrev S16x6x4096 : Shape := ⟨3, ![16, 6, 4096]⟩
abbrev S1x2048 : Shape := ⟨2, ![1, 2048]⟩
abbrev S1024x2048 : Shape := ⟨2, ![1024, 2048]⟩
abbrev S1x4096x512 : Shape := ⟨3, ![1, 4096, 512]⟩
abbrev S1024x512 : Shape := ⟨2, ![1024, 512]⟩
abbrev S1x6x512 : Shape := ⟨3, ![1, 6, 512]⟩
abbrev S1024x4096 : Shape := ⟨2, ![1024, 4096]⟩
abbrev S128x2048 : Shape := ⟨2, ![128, 2048]⟩
abbrev S128 : Shape := ⟨1, ![128]⟩
abbrev S128x1 : Shape := ⟨2, ![128, 1]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S2x4096x4096, .f32⟩
  | .hbm, ⟨5, _⟩ => ⟨S16384x4096, .f32⟩
  | .hbm, ⟨6, _⟩ => ⟨S16x6x4096, .f32⟩
  | .hbm, ⟨7, _⟩ => ⟨S2x4096x4096, .bf16⟩
  | .hbm, ⟨8, _⟩ => ⟨S1x2048, .f32⟩
  | .hbm, ⟨9, _⟩ => ⟨S1x2048, .f32⟩
  | .hbm, ⟨10, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1x4096x512, .bf16⟩
  | .local _ .vmem, ⟨7, _⟩ => ⟨S1x4096x512, .bf16⟩
  | .local _ .vmem, ⟨8, _⟩ => ⟨S1024x512, .f32⟩
  | .local _ .vmem, ⟨9, _⟩ => ⟨S1024x512, .f32⟩
  | .local _ .vmem, ⟨10, _⟩ => ⟨S1x6x512, .f32⟩
  | .local _ .vmem, ⟨11, _⟩ => ⟨S1x6x512, .f32⟩
  | .local _ .vmem, ⟨12, _⟩ => ⟨S1024x512, .f32⟩
  | .local _ .vmem, ⟨13, _⟩ => ⟨S1024x512, .f32⟩
  | .local _ .vmem, ⟨14, _⟩ => ⟨S1024x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32 : BitVec 32 := 8#32
  let v14 : BitVec 32 := Scalar.addi c0_i32_11 c8_i32
  let c1_i32 : BitVec 32 := 1#32
  ⟨c0_i32_11, v14, c1_i32⟩
def k0_mult1 (k0_t1 : Fin k0_t1_loop.trips) : BitVec 32 :=
  let c0_i32_11 : BitVec 32 := 0#32
  let c1_i32 : BitVec 32 := 1#32
  let arg11 : BitVec 32 := Scf.iv c0_i32_11 c1_i32 k0_t1
  let c128_i32 : BitVec 32 := 128#32
  let v15 : BitVec 32 := Scalar.muli arg11 c128_i32
  v15
def k0_off1 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c128_i32 : BitVec 32 := 128#32
  let v15 : BitVec 32 := Scalar.muli arg11 c128_i32
  let v16 : BitVec 32 := v15
  let v17 : Index := Scalar.indexCast v16
  let c0_13 : Index := 0#32
  ![v17.toNat, 0]
def k0_off2 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c128_i32 : BitVec 32 := 128#32
  let v15 : BitVec 32 := Scalar.muli arg11 c128_i32
  let v16 : BitVec 32 := v15
  let v35 : Index := Scalar.indexCast v16
  let c0_19 : Index := 0#32
  ![v35.toNat, 0]
def k0_off3 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c128_i32 : BitVec 32 := 128#32
  let v15 : BitVec 32 := Scalar.muli arg11 c128_i32
  let v16 : BitVec 32 := v15
  let v57 : Index := Scalar.indexCast v16
  let c2048 : Index := 2048#32
  ![v57.toNat, 2048]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  ![v18.toNat, c0_i32_5.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S16384x2048 : Shape := ⟨2, ![16384, 2048]⟩
abbrev S2048 : Shape := ⟨1, ![2048]⟩
abbrev S2x4096x4096 : Shape := ⟨3, ![2, 4096, 4096]⟩
abbrev S16384x4096 : Shape := ⟨2, ![16384, 4096]⟩
abbrev S16x6x4096 : Shape := ⟨3, ![16, 6, 4096]⟩
abbrev S8x2048x4096 : Shape := ⟨3, ![8, 2048, 4096]⟩
abbrev S8x1x4096 : Shape := ⟨3, ![8, 1, 4096]⟩
abbrev S8x4096 : Shape := ⟨2, ![8, 4096]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x4096x4096 : Shape := ⟨3, ![1, 4096, 4096]⟩
abbrev S4096x4096 : Shape := ⟨2, ![4096, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S2x4096x4096, .f32⟩
  | .hbm, ⟨5, _⟩ => ⟨S16384x4096, .f32⟩
  | .hbm, ⟨6, _⟩ => ⟨S16x6x4096, .f32⟩
  | .hbm, ⟨7, _⟩ => ⟨S8x2048x4096, .f32⟩
  | .hbm, ⟨8, _⟩ => ⟨S8x1x4096, .f32⟩
  | .hbm, ⟨9, _⟩ => ⟨S8x4096, .f32⟩
  | .hbm, ⟨10, _⟩ => ⟨S8x1x4096, .f32⟩
  | .hbm, ⟨11, _⟩ => ⟨S16384x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S16384x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S1x1x2048, .f32⟩
  | .hbm, ⟨45, _⟩ => ⟨S8x2048x2048, .f32⟩
  | .hbm, ⟨46, _⟩ => ⟨S8x2048x2048, .f32⟩
  | .hbm, ⟨47, _⟩ => ⟨S8x2048x4096, .f32⟩
  | .hbm, ⟨48, _⟩ => ⟨S1x4096x4096, .f32⟩
  | .hbm, ⟨49, _⟩ => ⟨S4096x4096, .f32⟩
  | .hbm, ⟨50, _⟩ => ⟨S8x2048x4096, .f32⟩
  | .hbm, ⟨51, _⟩ => ⟨S8x2048x4096, .f32⟩
  | .hbm, ⟨52, _⟩ => ⟨S8x2048x4096, .f32⟩
  | .hbm, ⟨53, _⟩ => ⟨S8x2048x4096, .f32⟩
  | .hbm, ⟨54, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== FinalSampleRefIdeal.lean ====
abbrev S16384x4096 : Shape := ⟨2, ![16384, 4096]⟩
abbrev S4096 : Shape := ⟨1, ![4096]⟩
abbrev S1x16384x4096 : Shape := ⟨3, ![1, 16384, 4096]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x16384x4096, .f32⟩
  | .hbm, ⟨3, _⟩ => ⟨S1x16384x4096, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x4096, .f32⟩
  | .hbm, ⟨15, _⟩ => ⟨S1x16384x4096, .f32⟩
  | .hbm, ⟨16, _⟩ => ⟨S1x1x4096, .f32⟩
  | .hbm, ⟨17, _⟩ => ⟨S1x16384x4096, .f32⟩
  | .hbm, ⟨18, _⟩ => ⟨S1x16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ada.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S16x24576 : Shape := ⟨2, ![16, 24576]⟩
abbrev S1x24576 : Shape := ⟨2, ![1, 24576]⟩
abbrev S24576 : Shape := ⟨1, ![24576]⟩
abbrev S1x16x24576 : Shape := ⟨3, ![1, 16, 24576]⟩
abbrev S2x16x24576 : Shape := ⟨3, ![2, 16, 24576]⟩

abbrev nBuf : Space → Nat
  | .hbm => 40
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S1x4096x24576, .f32⟩
  | .hbm, ⟨13, _⟩ => ⟨S4096x24576, .f32⟩
  | .hbm, ⟨14, _⟩ => ⟨S16x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S16x24576, .f32⟩
  | .hbm, ⟨19, _⟩ => ⟨S16x24576, .f32⟩
  | .hbm, ⟨20, _⟩ => ⟨S16x4096, .f32⟩
  | .hbm, ⟨21, _⟩ => ⟨S16x4096, .f32⟩
  | .hbm, ⟨22, _⟩ => ⟨S_, .f32⟩
  | .hbm, ⟨23, _⟩ => ⟨S16x4096, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S1x4096x24576, .f32⟩
  | .hbm, ⟨30, _⟩ => ⟨S4096x24576, .f32⟩
  | .hbm, ⟨31, _⟩ => ⟨S16x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S16x24576, .f32⟩
  | .hbm, ⟨36, _⟩ => ⟨S16x24576, .f32⟩
  | .hbm, ⟨37, _⟩ => ⟨S1x16x24576, .f32⟩
  | .hbm, ⟨38, _⟩ => ⟨S1x16x24576, .f32⟩
  | .hbm, ⟨39, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Mod.lean ====
abbrev S16384x4096 : Shape := ⟨2, ![16384, 4096]⟩
abbrev S4096 : Shape := ⟨1, ![4096]⟩
abbrev S16x6x4096 : Shape := ⟨3, ![16, 6, 4096]⟩
abbrev S1x4096 : Shape := ⟨2, ![1, 4096]⟩
abbrev S512x4096 : Shape := ⟨2, ![512, 4096]⟩
abbrev S1x6x4096 : Shape := ⟨3, ![1, 6, 4096]⟩
abbrev S512 : Shape := ⟨1, ![512]⟩
abbrev S512x1 : Shape := ⟨2, ![512, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S16384x4096 : Shape := ⟨2, ![16384, 4096]⟩
abbrev S4096 : Shape := ⟨1, ![4096]⟩
abbrev S16x6x4096 : Shape := ⟨3, ![16, 6, 4096]⟩
abbrev S8x1x4096 : Shape := ⟨3, ![8, 1, 4096]⟩
abbrev S8x4096 : Shape := ⟨2, ![8, 4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16x6x4096, .f32⟩
  | .hbm, ⟨3, _⟩ => ⟨S8x1x4096, .f32⟩
  | .hbm, ⟨4, _⟩ => ⟨S8x4096, .f32⟩
  | .hbm, ⟨5, _⟩ => ⟨S8x1x4096, .f32⟩
  | .hbm, ⟨6, _⟩ => ⟨S8x1x4096, .f32⟩
  | .hbm, ⟨7, _⟩ => ⟨S8x4096, .f32⟩
  | .hbm, ⟨8, _⟩ => ⟨S8x1x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x4096, .f32⟩
  | .hbm, ⟨22, _⟩ => ⟨S8x2048x4096, .f32⟩
  | .hbm, ⟨23, _⟩ => ⟨S1x1x4096, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x1x4096, .f32⟩
  | .hbm, ⟨28, _⟩ => ⟨S8x1x4096, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S16384x4096, .f32⟩
  | .hbm, ⟨34, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== In.lean ====
abbrev S16384x4096 : Shape := ⟨2, ![16384, 4096]⟩
abbrev S2x4096x5120 : Shape := ⟨3, ![2, 4096, 5120]⟩
abbrev S2048x32 : Shape := ⟨2, ![2048, 32]⟩
abbrev S128 : Shape := ⟨1, ![128]⟩
abbrev S2048x128 : Shape := ⟨2, ![2048, 128]⟩
abbrev S1x128 : Shape := ⟨2, ![1, 128]⟩
abbrev S16384x5120 : Shape := ⟨2, ![16384, 5120]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x5120, .f32⟩
  | .hbm, ⟨2, _⟩ => ⟨S2048x32, .f32⟩
  | .hbm, ⟨3, _⟩ => ⟨S2048x32, .f32⟩
  | .hbm, ⟨4, _⟩ => ⟨S2048x32, .f32⟩
  | .hbm, ⟨5, _⟩ => ⟨S2048x32, .f32⟩
  | .hbm, ⟨6, _⟩ => ⟨S128, .f32⟩
  | .hbm, ⟨7, _⟩ => ⟨S128, .f32⟩
  | .hbm, ⟨8, _⟩ => ⟨S2048x128, .f32⟩
  | .hbm, ⟨9, _⟩ => ⟨S2048x32, .f32⟩
  | .hbm, ⟨10, _⟩ => ⟨S2048x32, .f32⟩
  | .hbm, ⟨11, _⟩ => ⟨S2048x128, .f32⟩
  | .hbm, ⟨12, _⟩ => ⟨S2x4096x5120, .bf16⟩
  | .hbm, ⟨13, _⟩ => ⟨S1x128, .f32⟩
  | .hbm, ⟨14, _⟩ => ⟨S1x128, .f32⟩
  | .hbm, ⟨15, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_4 : BitVec 32 := 4#32
  let v7 : BitVec 1 := Scalar.cmpi .eq arg1 c4_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c4_i32_6 : BitVec 32 := 4#32
  let v10 : BitVec 1 := Scalar.cmpi .sgt arg1 c4_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InIdeal.lean ====
variable {F : FTy → Type} [FloatOps F] [Named F]
def κ : String → Option EReal := fun
  | "query_scale" => some (((Real.sqrt 128)⁻¹ * (Real.log 2)⁻¹ : ℝ) : EReal)
  | _ => none
-- ==== InRefIdeal.lean ====
abbrev S16384x4096 : Shape := ⟨2, ![16384, 4096]⟩
abbrev S2x4096x5120 : Shape := ⟨3, ![2, 4096, 5120]⟩
abbrev S2048x32 : Shape := ⟨2, ![2048, 32]⟩
abbrev S128 : Shape := ⟨1, ![128]⟩
abbrev S1x4096x5120 : Shape := ⟨3, ![1, 4096, 5120]⟩
abbrev S4096x5120 : Shape := ⟨2, ![4096, 5120]⟩
abbrev S16384x5120 : Shape := ⟨2, ![16384, 5120]⟩
abbrev S8x2048x5120 : Shape := ⟨3, ![8, 2048, 5120]⟩
abbrev S8x2048x2048 : Shape := ⟨3, ![8, 2048, 2048]⟩
abbrev S8x2048x512 : Shape := ⟨3, ![8, 2048, 512]⟩
abbrev S8x2048x16x128 : Shape := ⟨4, ![8, 2048, 16, 128]⟩
abbrev S_ : Shape := ⟨0, ![]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S8x2048x16x64 : Shape := ⟨4, ![8, 2048, 16, 64]⟩
abbrev S8x2048x16x32 : Shape := ⟨4, ![8, 2048, 16, 32]⟩
abbrev S1x2048x1x32 : Shape := ⟨4, ![1, 2048, 1, 32]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8x2048x4x64 : Shape := ⟨4, ![8, 2048, 4, 64]⟩
abbrev S8x2048x4x32 : Shape := ⟨4, ![8, 2048, 4, 32]⟩

abbrev nBuf : Space → Nat
  | .hbm => 129
  | .vmem => 0
  | .smem => 0
  | _ => 0

abbrev hbmTy0_0 (i : Nat) : BufTy := match i % 128 with
  | 0 => ⟨S16384x4096, .bf16⟩
  | 1 => ⟨S2x4096x5120, .f32⟩
  | 2 => ⟨S2048x32, .f32⟩
  | 3 => ⟨S2048x32, .f32⟩
  | 4 => ⟨S2048x32, .f32⟩
  | 5 => ⟨S2048x32, .f32⟩
  | 6 => ⟨S128, .f32⟩
  | 7 => ⟨S128, .f32⟩
  | 8 => ⟨S16384x4096, .f32⟩
  | 9 => ⟨S1x4096x5120, .f32⟩
  | 10 => ⟨S4096x5120, .f32⟩
  | 11 => ⟨S16384x5120, .f32⟩
  | 12 => ⟨S8x2048x5120, .f32⟩
  | 13 => ⟨S8x2048x2048, .f32⟩
  | 14 => ⟨S8x2048x512, .f32⟩
  | 15 => ⟨S8x2048x512, .f32⟩
  | 16 => ⟨S8x2048x2048, .f32⟩
  | 17 => ⟨S8x2048x16x128, .f32⟩
  | 18 => ⟨S8x2048x16x128, .f32⟩
  | 19 => ⟨S_, .f32⟩
  | 20 => ⟨S8x2048x16, .f32⟩
  | 21 => ⟨S8x2048x16x1, .f32⟩
  | 22 => ⟨S_, .f32⟩
  | 23 => ⟨S8x2048x16x1, .f32⟩
  | 24 => ⟨S8x2048x16x1, .f32⟩
  | 25 => ⟨S_, .f32⟩
  | 26 => ⟨S8x2048x16x1, .f32⟩
  | 27 => ⟨S8x2048x16x1, .f32⟩
  | 28 => ⟨S8x2048x16x1, .f32⟩
  | 29 => ⟨S8x2048x16x128, .f32⟩
  | 30 => ⟨S8x2048x16x128, .f32⟩
  | 31 => ⟨S1x1x1x128, .f32⟩
  | 32 => ⟨S8x2048x16x128, .f32⟩
  | 33 => ⟨S8x2048x16x128, .f32⟩
  | 34 => ⟨S8x2048x16x64, .f32⟩
  | 35 => ⟨S8x2048x16x32, .f32⟩
  | 36 => ⟨S8x2048x16x32, .f32⟩
  | 37 => ⟨S1x2048x1x32, .f32⟩
  | 38 => ⟨S1x2048x1x32, .f32⟩
  | 39 => ⟨S8x2048x16x32, .f32⟩
  | 40 => ⟨S8x2048x16x32, .f32⟩
  | 41 => ⟨S8x2048x16x32, .f32⟩
  | 42 => ⟨S8x2048x16x32, .f32⟩
  | 43 => ⟨S8x2048x16x32, .f32⟩
  | 44 => ⟨S8x2048x16x32, .f32⟩
  | 45 => ⟨S8x2048x16x32, .f32⟩
  | 46 => ⟨S8x2048x16x32, .f32⟩
  | 47 => ⟨S8x2048x16x32, .f32⟩
  | 48 => ⟨S8x2048x16x32, .f32⟩
  | 49 => ⟨S8x2048x16x64, .f32⟩
  | 50 => ⟨S8x2048x16x64, .f32⟩
  | 51 => ⟨S8x2048x16x32, .f32⟩
  | 52 => ⟨S8x2048x16x32, .f32⟩
  | 53 => ⟨S1x2048x1x32, .f32⟩
  | 54 => ⟨S1x2048x1x32, .f32⟩
  | 55 => ⟨S8x2048x16x32, .f32⟩
  | 56 => ⟨S8x2048x16x32, .f32⟩
  | 57 => ⟨S8x2048x16x32, .f32⟩
  | 58 => ⟨S8x2048x16x32, .f32⟩
  | 59 => ⟨S8x2048x16x32, .f32⟩
  | 60 => ⟨S8x2048x16x32, .f32⟩
  | 61 => ⟨S8x2048x16x32, .f32⟩
  | 62 => ⟨S8x2048x16x32, .f32⟩
  | 63 => ⟨S8x2048x16x32, .f32⟩
  | 64 => ⟨S8x2048x16x32, .f32⟩
  | 65 => ⟨S8x2048x16x64, .f32⟩
  | 66 => ⟨S8x2048x16x128, .f32⟩
  | 67 => ⟨S8x2048x4x128, .f32⟩
  | 68 => ⟨S8x2048x4x128, .f32⟩
  | 69 => ⟨S_, .f32⟩
  | 70 => ⟨S8x2048x4, .f32⟩
  | 71 => ⟨S8x2048x4x1, .f32⟩
  | 72 => ⟨S_, .f32⟩
  | 73 => ⟨S8x2048x4x1, .f32⟩
  | 74 => ⟨S8x2048x4x1, .f32⟩
  | 75 => ⟨S_, .f32⟩
  | 76 => ⟨S8x2048x4x1, .f32⟩
  | 77 => ⟨S8x2048x4x1, .f32⟩
  | 78 => ⟨S8x2048x4x1, .f32⟩
  | 79 => ⟨S8x2048x4x128, .f32⟩
  | 80 => ⟨S8x2048x4x128, .f32⟩
  | 81 => ⟨S1x1x1x128, .f32⟩
  | 82 => ⟨S8x2048x4x128, .f32⟩
  | 83 => ⟨S8x2048x4x128, .f32⟩
  | 84 => ⟨S8x2048x4x64, .f32⟩
  | 85 => ⟨S8x2048x4x32, .f32⟩
  | 86 => ⟨S8x2048x4x32, .f32⟩
  | 87 => ⟨S1x2048x1x32, .f32⟩
  | 88 => ⟨S1x2048x1x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x32, .f32⟩
  | 97 => ⟨S8x2048x4x32, .f32⟩
  | 98 => ⟨S8x2048x4x32, .f32⟩
  | 99 => ⟨S8x2048x4x64, .f32⟩
  | 100 => ⟨S8x2048x4x64, .f32⟩
  | 101 => ⟨S8x2048x4x32, .f32⟩
  | 102 => ⟨S8x2048x4x32, .f32⟩
  | 103 => ⟨S1x2048x1x32, .f32⟩
  | 104 => ⟨S1x2048x1x32, .f32⟩
  | 105 => ⟨S8x2048x4x32, .f32⟩
  | 106 => ⟨S8x2048x4x32, .f32⟩
  | 107 => ⟨S8x2048x4x32, .f32⟩
  | 108 => ⟨S8x2048x4x32, .f32⟩
  | 109 => ⟨S8x2048x4x32, .f32⟩
  | 110 => ⟨S8x2048x4x32, .f32⟩
  | 111 => ⟨S8x2048x4x32, .f32⟩
  | 112 => ⟨S8x2048x4x32, .f32⟩
  | 113 => ⟨S8x2048x4x32, .f32⟩
  | 114 => ⟨S8x2048x4x32, .f32⟩
  | 115 => ⟨S8x2048x4x64, .f32⟩
  | 116 => ⟨S8x2048x4x128, .f32⟩
  | 117 => ⟨S_, .f32⟩
  | 118 => ⟨S_, .f32⟩
  | 119 => ⟨S_, .f32⟩
  | 120 => ⟨S_, .f32⟩
  | 121 => ⟨S_, .f32⟩
  | 122 => ⟨S8x2048x16x128, .f32⟩
  | 123 => ⟨S8x2048x16x128, .f32⟩
  | 124 => ⟨S8x2048x2048, .f32⟩
  | 125 => ⟨S8x2048x512, .f32⟩
  | 126 => ⟨S8x2048x5120, .f32⟩
  | 127 => ⟨S16384x5120, .f32⟩
  | _ => ⟨S16384x4096, .bf16⟩

abbrev hbmTy0_1 (i : Nat) : BufTy := match i % 128 with
  | 0 => ⟨S16384x5120, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_2 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_5 : Ref sig .tc := ⟨.hbm, 117, rfl⟩
abbrev main_v103 : Ref sig .tc := ⟨.hbm, 118, rfl⟩
abbrev main_cst_6 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩

abbrev nD : Nat := 1
abbrev τ : Topo := Topo.v7x

variable {F : FTy → Type} [FloatOps F]
-- ==== Four.lean ====
abbrev S8x2048x5120 : Shape := ⟨3, ![8, 2048, 5120]⟩
abbrev S2x16x128x128 : Shape := ⟨4, ![2, 16, 128, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S8x2048x2048 : Shape := ⟨3, ![8, 2048, 2048]⟩
abbrev S1x2048x1024 : Shape := ⟨3, ![1, 2048, 1024]⟩
abbrev S512x2048 : Shape := ⟨2, ![512, 2048]⟩
abbrev S1x8x128x128 : Shape := ⟨4, ![1, 8, 128, 128]⟩
abbrev S1x512x1024 : Shape := ⟨3, ![1, 512, 1024]⟩
abbrev S2048x1024 : Shape := ⟨2, ![2048, 1024]⟩
abbrev S1x2048x128 : Shape := ⟨3, ![1, 2048, 128]⟩
abbrev S2048x128 : Shape := ⟨2, ![2048, 128]⟩
abbrev S2048x256 : Shape := ⟨2, ![2048, 256]⟩
abbrev S512x1024 : Shape := ⟨2, ![512, 1024]⟩
abbrev S512x128 : Shape := ⟨2, ![512, 128]⟩
abbrev S1x1x128x128 : Shape := ⟨4, ![1, 1, 128, 128]⟩
abbrev S1x512x128 : Shape := ⟨3, ![1, 512, 128]⟩

abbrev nBuf : Space → Nat
  | .hbm => 76
  | .vmem => 13
  | .smem => 0
  | _ => 0

abbrev bufTy : (tb : Table) → Fin (tcTables nBuf tb) → BufTy
  | .hbm, ⟨0, _⟩ => ⟨S8x2048x5120, .bf16⟩
  | .hbm, ⟨1, _⟩ => ⟨S2x16x128x128, .f32⟩
  | .hbm, ⟨2, _⟩ => ⟨S2x16x128x128, .bf16⟩
  | .hbm, ⟨3, _⟩ => ⟨S2048, .i32⟩
  | .hbm, ⟨4, _⟩ => ⟨S2048x1, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S128, .i32⟩
  | .hbm, ⟨38, _⟩ => ⟨S128x1, .i32⟩
  | .hbm, ⟨39, _⟩ => ⟨S1x128, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i1⟩
  | .hbm, ⟨54, _⟩ => ⟨S_, .i32⟩
  | .hbm, ⟨55, _⟩ => ⟨S128x128, .i32⟩
  | .hbm, ⟨56, _⟩ => ⟨S128x128, .i1⟩
  | .hbm, ⟨57, _⟩ => ⟨S_, .i32⟩
  | .hbm, ⟨58, _⟩ => ⟨S_, .i1⟩
  | .hbm, ⟨59, _⟩ => ⟨S128x128, .i1⟩
  | .hbm, ⟨60, _⟩ => ⟨S128x128, .i1⟩
  | .hbm, ⟨61, _⟩ => ⟨S128x128, .i1⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .f32⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S128x256, .f32⟩
  | .hbm, ⟨72, _⟩ => ⟨S128x256, .bf16⟩
  | .hbm, ⟨73, _⟩ => ⟨S2048x2048, .bf16⟩
  | .hbm, ⟨74, _⟩ => ⟨S2048x2048, .bf16⟩
  | .hbm, ⟨75, _⟩ => ⟨S8x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S128x256, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1x8x128x128, .bf16⟩
  | .local _ .vmem, ⟨8, _⟩ => ⟨S1x8x128x128, .bf16⟩
  | .local _ .vmem, ⟨9, _⟩ => ⟨S1x512x1024, .bf16⟩
  | .local _ .vmem, ⟨10, _⟩ => ⟨S1x512x1024, .bf16⟩
  | .local _ .vmem, ⟨11, _⟩ => ⟨S2048x1024, .bf16⟩
  | .local _ .vmem, ⟨12, _⟩ => ⟨S2048x1024, .bf16⟩
  | _, _ => ⟨S8x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_v20 : Ref sig .tc := ⟨.hbm, 65, rfl⟩
abbrev main_cst_1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x8x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FourRefIdeal.lean ====
abbrev S8x2048x5120 : Shape := ⟨3, ![8, 2048, 5120]⟩
abbrev S2x16x128x128 : Shape := ⟨4, ![2, 16, 128, 128]⟩
abbrev S8x2048x2048 : Shape := ⟨3, ![8, 2048, 2048]⟩
abbrev S8x2048x16x128 : Shape := ⟨4, ![8, 2048, 16, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x16x128x2048 : Shape := ⟨4, ![8, 16, 128, 2048]⟩
abbrev S1x16x128x128 : Shape := ⟨4, ![1, 16, 128, 128]⟩
abbrev S16x128x128 : Shape := ⟨3, ![16, 128, 128]⟩
abbrev S16x128x8x2048 : Shape := ⟨4, ![16, 128, 8, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x5120, .bf16⟩
  | .hbm, ⟨1, _⟩ => ⟨S2x16x128x128, .f32⟩
  | .hbm, ⟨2, _⟩ => ⟨S8x2048x2048, .bf16⟩
  | .hbm, ⟨3, _⟩ => ⟨S8x2048x2048, .f32⟩
  | .hbm, ⟨4, _⟩ => ⟨S8x2048x16x128, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S128, .i32⟩
  | .hbm, ⟨40, _⟩ => ⟨S128x1, .i32⟩
  | .hbm, ⟨41, _⟩ => ⟨S1x128, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S_, .i32⟩
  | .hbm, ⟨57, _⟩ => ⟨S128x128, .i32⟩
  | .hbm, ⟨58, _⟩ => ⟨S128x128, .i1⟩
  | .hbm, ⟨59, _⟩ => ⟨S_, .i32⟩
  | .hbm, ⟨60, _⟩ => ⟨S_, .i1⟩
  | .hbm, ⟨61, _⟩ => ⟨S128x128, .i1⟩
  | .hbm, ⟨62, _⟩ => ⟨S128x128, .i1⟩
  | .hbm, ⟨63, _⟩ => ⟨S128x128, .i1⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .f32⟩
  | .hbm, ⟨68, _⟩ => ⟨S_, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S8x2048x16x128, .f32⟩
  | .hbm, ⟨74, _⟩ => ⟨S8x2048x16x128, .f32⟩
  | .hbm, ⟨75, _⟩ => ⟨S8x16x128x2048, .f32⟩
  | .hbm, ⟨76, _⟩ => ⟨S8x2048x16x128, .f32⟩
  | .hbm, ⟨77, _⟩ => ⟨S8x16x128x2048, .f32⟩
  | .hbm, ⟨78, _⟩ => ⟨S8x2048x16x128, .f32⟩
  | .hbm, ⟨79, _⟩ => ⟨S8x2048x16x128, .f32⟩
  | .hbm, ⟨80, _⟩ => ⟨S_, .f32⟩
  | .hbm, ⟨81, _⟩ => ⟨S8x2048x16x128, .f32⟩
  | .hbm, ⟨82, _⟩ => ⟨S8x2048x16x128, .f32⟩
  | .hbm, ⟨83, _⟩ => ⟨S1x16x128x128, .f32⟩
  | .hbm, ⟨84, _⟩ => ⟨S16x128x128, .f32⟩
  | .hbm, ⟨85, _⟩ => ⟨S16x128x8x2048, .f32⟩
  | .hbm, ⟨86, _⟩ => ⟨S8x2048x16x128, .f32⟩
  | .hbm, ⟨87, _⟩ => ⟨S8x2048x2048, .f32⟩
  | .hbm, ⟨88, _⟩ => ⟨S8x2048x2048, .bf16⟩
  | _, _ => ⟨S8x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v21 : Ref sig .tc := ⟨.hbm, 66, rfl⟩
abbrev main_v22 : Ref sig .tc := ⟨.hbm, 67, rfl⟩
abbrev main_cst_1 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩

abbrev nD : Nat := 1
abbrev τ : Topo := Topo.v7x

variable {F : FTy → Type} [FloatOps F]
-- ==== Proof.Attention.Tile.lean ====
/-
  THE ATTENTION KERNEL'S TILE: what one grid point computes, read at an index. The kernel works on the transposed
  scores: row `r` is a key, column `j` a query of the group (four heads of 512 queries side by side).
-/
module

public import proofs.«01_k».proof.Proof.Gen.AttnIdeal.Value
public import Idealize.ShloMosaic.Lib.Pipeline.ValueKit
public import Idealize.ShloMosaic.Lib.Pointwise
public import Idealize.ShloMosaic.Lib.WholeRead

@[expose] public section

set_option maxRecDepth 16384

noncomputable section

namespace Cert.AttnIdeal.Tile

open Idealize.ShloMosaic Idealize.ShloMosaic.TcCoe Idealize.SL.Sem
open Cert.AttnIdeal Cert.AttnIdeal.Gen

/-! ## Reading a scratch back, and reading a staged block -/

/-- A load through a unit rectangle of what a list of stores left reads the stores' contents at the placed index. -/
theorem readCov_at {Val : EltTy → Type} [∀ e, Nonempty (Val e)] {κ : Kind} {sp : Space} {s : Shape} {e : EltTy}
    (v : View sig κ sp s e) (L : List (View.Piece Val s e)) {off size : Fin s.rank → Nat} (inb)
    (y : (Rect.unit off size inb).shape.Idx) (i : s.Idx) (hi : ∀ a, (i a : Nat) = off a + y a) :
    v.readCov L (Rect.unit off size inb).toLoadRect y = View.canon L i := by
  rw [View.readCov_eq_canon']
  exact congrArg (View.canon L) (funext fun a => Fin.ext ((Rect.idx_unit_val off size inb y a).trans (hi a).symm))

/-- A load through a unit rectangle of a scratch last stored whole reads what was stored, at the placed index. -/
theorem readWhole_at {Val : EltTy → Type} [∀ e, Nonempty (Val e)] {κ : Kind} {sp : Space} {s : Shape} {e : EltTy}
    (v : View sig κ sp s e) {off₀ : Fin s.rank → Nat} (inb₀) (h₀ : ∀ a, off₀ a = 0) (w : s.Idx → Val e)
    (L : List (View.Piece Val s e)) {off size : Fin s.rank → Nat} (inb)
    (y : (Rect.unit off size inb).shape.Idx) (i : s.Idx) (hi : ∀ a, (i a : Nat) = off a + y a) :
    v.readCov (⟨Rect.unit off₀ s.size inb₀, w⟩ :: L) (Rect.unit off size inb).toLoadRect y = w i := by
  rw [readCov_at v _ inb y i hi, View.canon_cons_unit_lit' inb₀ w L h₀]

/-- A load through a unit rectangle of a staged block reads the block at the placed index. -/
theorem readBlock_at {Val : EltTy → Type} {κ : Kind} {sp : Space} {s : Shape} {e : EltTy} {m : Memref sig κ sp s e}
    (h : m.IsWhole) (X : s.Idx → Val e) {off size : Fin s.rank → Nat} (inb)
    (y : (Rect.unit off size inb).shape.Idx) (i : s.Idx) (hi : ∀ a, (i a : Nat) = off a + y a) :
    m.view.readAt Val (Rect.unit off size inb).toLoadRect (h.unread X) y = X i := by
  rw [h.readAt_unread]
  exact congrArg X (funext fun a => Fin.ext ((Rect.idx_unit_val off size inb y a).trans (hi a).symm))

variable (c : Dev nD)
variable (arg3 : Memref sig .tc .vmem S1x512x512 .bf16) (harg3 : arg3.IsWhole)
variable (arg4 : Memref sig .tc .vmem S1x2048x128 .bf16) (harg4 : arg4.IsWhole)
variable (arg7 : Memref sig .tc .vmem S2048x128 .bf16) (arg8 : Memref sig .tc .vmem S128x2048 .bf16)
  (harg8 : arg8.IsWhole)
variable (arg9 arg10 : Memref sig .tc .vmem S1024x2048 .f32) (arg11 arg12 : Memref sig .tc .vmem S8x2048 .f32)
variable (arg13 arg14 : Memref sig .tc .vmem S1024x2048 .bf16) (arg15 arg16 : Memref sig .tc .vmem S1x2048 .f32)
variable (arg17 : Memref sig .tc .vmem S128x2048 .f32)
variable (x0 : Vec Ideal S1x512x512 .bf16) (x1 : Vec Ideal S1x2048x128 .bf16) (xs1 : Vec Ideal S128x2048 .bf16)

/-- The score of key `r` against query column `j`: head `j / 512` of the group, query `j % 512` of the tile. -/
def score (r : Fin 2048) (j : Fin 2048) : EReal :=
  ∑ d : Fin 128, x1 (ix3 0 r d) * x0 (ix3 0 ⟨j.val % 512, by omega⟩ ⟨j.val / 512 * 128 + d.val, by omega⟩)

/-- The stacked queries, read at a row: head `j / 512`, query `j % 512`. -/
theorem q4_at (j : Fin 2048) (d : Fin 128) :
    kernelRun0_B.sl.v39 c arg3 harg3 arg7 x0 (ix2 j d)
      = x0 (ix3 0 ⟨j.val % 512, by omega⟩ ⟨j.val / 512 * 128 + d.val, by omega⟩) := by
  unfold kernelRun0_B.sl.v39 kernelRun0_B.sl.HS0_4
  rw [readCov_at _ _ _ _ (ix2 j d) (fun a => by fin_cases a <;> simp)]
  canon_tiles x h
  all_goals
    open_payloads
    pointwise
    simp only [ix2_0, ix2_1] at h0 h1
    rw [harg3.read_unread]
    blk_ext

/-- The first block's scores, as the kernel leaves them. -/
theorem s0_at (i : Fin 1024) (j : Fin 2048) :
    kernelRun0_B.sl.r c arg3 harg3 arg4 harg4 arg7 x0 x1 (ix2 i j) = score x0 x1 ⟨i.val, by omega⟩ j := by
  unfold kernelRun0_B.sl.r score
  pointwise [k0_pay15]
  refine Finset.sum_congr rfl fun d _ => ?_
  rw [q4_at, readBlock_at harg4 x1 _ _ (ix3 0 ⟨i.val, by omega⟩ d) (fun a => by fin_cases a <;> simp)]

/-- The second block's scores. -/
theorem s1_at (i : Fin 1024) (j : Fin 2048) :
    kernelRun0_B.sl.r_5 c arg3 harg3 arg4 harg4 arg7 x0 x1 (ix2 i j) = score x0 x1 ⟨1024 + i.val, by omega⟩ j := by
  unfold kernelRun0_B.sl.r_5 score
  pointwise [k0_pay22]
  refine Finset.sum_congr rfl fun d _ => ?_
  rw [q4_at, readBlock_at harg4 x1 _ _ (ix3 0 ⟨1024 + i.val, by omega⟩ d) (fun a => by fin_cases a <;> simp)]

/-! ## The column maximum: a fold of slices, of which only a property closed under `max` is kept -/

/-- Every entry of column `j` has the property `P`. -/
def AllCol (P : EReal → Prop) (j : Fin 2048) {n : Nat} (v : FVec Ideal ⟨2, ![n, 2048]⟩ .f32) : Prop :=
  ∀ i : Fin n, P (v (ix2 i j))

theorem AllCol.max {P : EReal → Prop} (hmax : ∀ a b, P a → P b → P (max a b)) {j : Fin 2048}
    {v w : FVec Ideal S8x2048 .f32} (hv : AllCol P j (n := 8) v) (hw : AllCol P j (n := 8) w) :
    AllCol P j (n := 8) (maximumf v w) :=
  fun i => hmax _ _ (hv i) (hw i)

theorem AllCol.slice {P : EReal → Prop} {j : Fin 2048} {o : Nat} {v : FVec Ideal S1024x2048 .f32}
    (hv : AllCol P j (n := 1024) v) (h) : AllCol P j (n := 8) (extractStridedSlice S8x2048 ![o, 0] v h) := by
  intro i
  have ho : o + 8 ≤ 1024 := by have := h.2 0; simpa using this
  pointwise
  exact hv _

theorem AllCol.cast {P : EReal → Prop} {j : Fin 2048} {v : FVec Ideal S8x2048 .f32}
    (hv : AllCol P j (n := 8) v) (h) : AllCol P j (n := 8) (shapeCast S8x2048 v h) := by
  intro i
  pointwise
  exact hv _

/-! ## The exponentials, sixteen rows at a time, and the running column sums -/

/-- Column `j` of `v` holds the terms `e o, e (o + 1), …`. -/
def Rows (e : ℕ → EReal) (j : Fin 2048) (o : ℕ) {n : ℕ} (v : FVec Ideal ⟨2, ![n, 2048]⟩ .f32) : Prop :=
  ∀ a : Fin n, v (ix2 a j) = e (o + a.val)

/-- Column `j` of `v` holds, in row `i`, the sum of the first `n` terms at distance 8 from `e i` on. -/
def Sums (e : ℕ → EReal) (j : Fin 2048) (n : ℕ) (v : FVec Ideal S8x2048 .f32) : Prop :=
  ∀ i : Fin 8, v (ix2 i j) = ∑ k ∈ Finset.range n, e (8 * k + i.val)

theorem Sums.zero (e : ℕ → EReal) (j : Fin 2048) :
    Sums e j 0 (broadcast S8x2048 (Scalar.ofBits .f32 0x00000000#32 : Ideal .f32)) := by
  intro i
  pointwise
  simp

theorem Sums.step {e : ℕ → EReal} {j : Fin 2048} {n o q : ℕ} {acc : FVec Ideal S8x2048 .f32}
    {X : FVec Ideal S16x2048 .f32} (h) (hX : Rows e j o (n := 16) X) (hacc : Sums e j n acc) (hq : 8 * n = o + q) :
    Sums e j (n + 1) (addf acc (extractStridedSlice S8x2048 ![q, 0] X h)) := by
  intro i
  have ho : q + 8 ≤ 16 := by have := h.2 0; simpa using this
  pointwise
  rw [Finset.sum_range_succ, hacc, hX, hq]
  congr 2
  simp only [Nat.add_assoc]

theorem Rows.exp {s : ℕ → EReal} {j : Fin 2048} {o : ℕ} {μ : EReal} {X : FVec Ideal S16x2048 .f32}
    {M : FVec Ideal S1x2048 .f32} (h) (hX : Rows s j o (n := 16) X) (hM : M (ix2 0 j) = μ) :
    Rows (fun r => Ideal.exp2 (s r - μ)) j o (n := 16) (exp2 (subf X (broadcastTo S16x2048 M h))) := by
  intro a
  pointwise
  rw [hX, hM]
  rfl

/-- Column `j`'s scores as a sequence (zero past the last key). -/
def scoreSeq (j : Fin 2048) (r : ℕ) : EReal := if h : r < 2048 then score x0 x1 ⟨r, h⟩ j else 0

theorem scoreSeq_of_lt (j : Fin 2048) (r : ℕ) (h : r < 2048) : scoreSeq x0 x1 j r = score x0 x1 ⟨r, h⟩ j := dif_pos h

/-- A load of rows `o …` of the first block's scores, from the scratch they were stored to. -/
theorem s0_read (j : Fin 2048) (o : Nat) (inb) :
    Rows (scoreSeq x0 x1 j) j o (n := 16) (arg9.view.readCov (kernelRun0_B.sl.HS2_1 c arg3 harg3 arg4 harg4 arg7 x0 x1)
      (Rect.unit (s := S1024x2048) ![o, 0] ![16, 2048] inb).toLoadRect) := by
  intro a
  have ho : o + 16 ≤ 1024 := by simpa using inb 0
  unfold kernelRun0_B.sl.HS2_1
  refine (readWhole_at _ _ (by decide) _ _ _ _ (ix2 ⟨o + a.val, by omega⟩ j) (fun b => by fin_cases b <;> simp)).trans ?_
  rw [scoreSeq_of_lt _ _ _ _ (by omega), ← s0_at c arg3 harg3 arg4 harg4 arg7 x0 x1 ⟨o + a.val, by omega⟩ j]
  unfold kernelRun0_B.sl.r
  pointwise [k0_pay16]

theorem s1_read (j : Fin 2048) (o : Nat) (inb) :
    Rows (fun r => scoreSeq x0 x1 j (1024 + r)) j o (n := 16)
      (arg10.view.readCov (kernelRun0_B.sl.HS3_1 c arg3 harg3 arg4 harg4 arg7 x0 x1)
        (Rect.unit (s := S1024x2048) ![o, 0] ![16, 2048] inb).toLoadRect) := by
  intro a
  have ho : o + 16 ≤ 1024 := by simpa using inb 0
  unfold kernelRun0_B.sl.HS3_1
  refine (readWhole_at _ _ (by decide) _ _ _ _ (ix2 ⟨o + a.val, by omega⟩ j) (fun b => by fin_cases b <;> simp)).trans ?_
  show _ = scoreSeq x0 x1 j (1024 + (o + a.val))
  rw [scoreSeq_of_lt _ _ _ _ (by omega), ← s1_at c arg3 harg3 arg4 harg4 arg7 x0 x1 ⟨o + a.val, by omega⟩ j]
  unfold kernelRun0_B.sl.r_5
  pointwise [k0_pay23]

open Cert.AttnIdeal.Gen.kernelRun0_B

/-- The first block's column maximum. -/
theorem cm0_at (j : Fin 2048) (P : EReal → Prop) (hmax : ∀ a b, P a → P b → P (max a b))
    (hP : ∀ r, P (score x0 x1 r j)) :
    AllCol P j (n := 8) (sl.v570 c arg3 harg3 arg4 harg4 arg7 arg11 x0 x1) := by
  have hS : AllCol P j (n := 1024) (sl.r c arg3 harg3 arg4 harg4 arg7 x0 x1) := fun i => by rw [s0_at]; exact hP _
  have h : AllCol P j (n := 8) (k0_pay21 (sl.r c arg3 harg3 arg4 harg4 arg7 x0 x1)
      (sl.r_4 c arg3 harg3 arg4 harg4 arg7 x0 x1)) := by
    unfold k0_pay21
    dsimp only [
      sl.r_4, sl.r, sl.r_3, sl.r_2, sl.r_1, k0_pay20, k0_pay19, k0_pay18, k0_pay17] at hS ⊢
    refine AllCol.cast ?_ _
    repeat' (with_reducible first | exact AllCol.slice hS _ | refine AllCol.max hmax ?_ ?_)
  intro i
  unfold sl.v570 sl.HS4_1
  refine Eq.subst (motive := P) (Eq.symm (readWhole_at _ _ (by decide) _ _ _ _ (ix2 i j) (fun b => by fin_cases b <;> simp))) ?_
  exact h i

/-- The running column sums of the first block. -/
theorem sum0_at (j : Fin 2048) (μ : EReal)
    (hμ : sl.r_14 c arg3 harg3 arg4 harg4 arg7 arg11 arg15 x0 x1 (ix2 0 j) = μ) :
    Sums (fun r => Ideal.exp2 (scoreSeq x0 x1 j r - μ)) j 128
      (sl.r_50 c arg3 harg3 arg4 harg4 arg7 arg9 arg11 arg15 x0 x1) := by
  dsimp only [
    sl.r_50, sl.r_14, sl.r_48, sl.v1309, sl.v1321, sl.v1333, sl.r_47, sl.v1261, sl.v1273, sl.v1285, sl.v1297,
    sl.r_46, sl.v1225, sl.v1237, sl.v1249, sl.r_44, sl.v1177, sl.v1189, sl.v1201, sl.v1213, sl.r_42, sl.r_43,
    sl.v1141, sl.v1153, sl.v1165, sl.r_40, sl.v1093, sl.v1105, sl.v1117, sl.v1129, sl.r_38, sl.r_39, sl.v1057,
    sl.v1069, sl.v1081, sl.v1045, sl.r_36, sl.v1009, sl.v1021, sl.v1033, sl.r_33, sl.r_34, sl.r_35, sl.v973, sl.v985,
    sl.v997, sl.r_31, sl.v925, sl.v937, sl.v949, sl.v961, sl.r_29, sl.r_30, sl.v889, sl.v901, sl.v913, sl.r_27,
    sl.v841, sl.v853, sl.v865, sl.v877, sl.r_25, sl.r_26, sl.v805, sl.v817, sl.v829, sl.r_23, sl.v757, sl.v769,
    sl.v781, sl.v793, sl.r_21, sl.v709, sl.r_22, sl.v721, sl.v733, sl.v745, sl.r_19, sl.v673, sl.v685, sl.v697,
    sl.r_18, sl.v625, sl.v637, sl.v649, sl.v661, sl.r_16, sl.v589, sl.v601, sl.v613, sl.v577, k0_pay190, k0_pay182,
    k0_pay189, k0_pay185, k0_pay187, k0_pay173, k0_pay177, k0_pay179, k0_pay181, k0_pay175, k0_pay166, k0_pay170,
    k0_pay168, k0_pay172, k0_pay157, k0_pay159, k0_pay161, k0_pay163, k0_pay165, k0_pay149, k0_pay150, k0_pay154,
    k0_pay152, k0_pay156, k0_pay140, k0_pay142, k0_pay146, k0_pay144, k0_pay148, k0_pay132, k0_pay133, k0_pay139,
    k0_pay135, k0_pay137, k0_pay124, k0_pay126, k0_pay130, k0_pay128, k0_pay114, k0_pay116, k0_pay117, k0_pay119,
    k0_pay123, k0_pay121, k0_pay106, k0_pay111, k0_pay113, k0_pay109, k0_pay97, k0_pay99, k0_pay101, k0_pay103,
    k0_pay105, k0_pay89, k0_pay92, k0_pay94, k0_pay96, k0_pay79, k0_pay81, k0_pay88, k0_pay82, k0_pay86, k0_pay84,
    k0_pay71, k0_pay76, k0_pay78, k0_pay74, k0_pay61, k0_pay63, k0_pay64, k0_pay66, k0_pay68, k0_pay70, k0_pay53,
    k0_pay58, k0_pay60, k0_pay56, k0_pay44, k0_pay52, k0_pay48, k0_pay50, k0_pay46, k0_pay36, k0_pay43, k0_pay39,
    k0_pay41, k0_pay35] at hμ ⊢
  repeat' (with_reducible first
    | exact Sums.zero _ _
    | refine Sums.step _ (Rows.exp _ (s0_read c arg3 harg3 arg4 harg4 arg7 arg9 x0 x1 j _ _) hμ) ?_ ?_)
  all_goals rfl

/-- The second block's column maximum. -/
theorem cm1_at (j : Fin 2048) (P : EReal → Prop) (hmax : ∀ a b, P a → P b → P (max a b))
    (hP : ∀ r, P (score x0 x1 r j)) :
    AllCol P j (n := 8) (sl.v1358 c arg3 harg3 arg4 harg4 arg7 arg12 x0 x1) := by
  have hS : AllCol P j (n := 1024) (sl.r_5 c arg3 harg3 arg4 harg4 arg7 x0 x1) := fun i => by rw [s1_at]; exact hP _
  have h : AllCol P j (n := 8) (k0_pay32 (sl.r_5 c arg3 harg3 arg4 harg4 arg7 x0 x1)
      (sl.r_12 c arg3 harg3 arg4 harg4 arg7 x0 x1) (sl.r_13 c arg3 harg3 arg4 harg4 arg7 x0 x1)) := by
    unfold k0_pay32
    dsimp only [
      sl.r_12, sl.r_13, sl.r_10, sl.r_11, sl.r_8, sl.r_9, sl.r_6, sl.r_7, sl.r_5, k0_pay30, k0_pay31, k0_pay28,
      k0_pay29, k0_pay26, k0_pay27, k0_pay24, k0_pay25] at hS ⊢
    refine AllCol.cast ?_ _
    repeat' (with_reducible first | exact AllCol.slice hS _ | refine AllCol.max hmax ?_ ?_)
  intro i
  unfold sl.v1358 sl.HS5_1
  refine Eq.subst (motive := P) (Eq.symm (readWhole_at _ _ (by decide) _ _ _ _ (ix2 i j) (fun b => by fin_cases b <;> simp))) ?_
  exact h i

/-- The new maximum, from the old one and a block's column maximum. -/
theorem newMax_at {P : EReal → Prop} {j : Fin 2048} {V : FVec Ideal S8x2048 .f32} {A : FVec Ideal S1x2048 .f32}
    (hmax : ∀ a b, P a → P b → P (max a b)) (hV : AllCol P j (n := 8) V) (hA : A (ix2 0 j) = ⊥ ∨ P (A (ix2 0 j))) (h₁ h₂) :
    P (maximumf A (shapeCast S1x2048
      (multiReduction .maximumf [0] S2048 V 0xFF800000#32 reduces_S8x2048_S2048 h₁ h₂) shapeCasts_S2048_S1x2048)
      (ix2 0 j)) := by
  have hP : ∀ S : Finset (Fin 8), S.Nonempty → P (S.fold max ⊥ fun i => V (ix2 i j)) := by
    intro S hS
    induction hS using Finset.Nonempty.cons_induction with
    | singleton a => simpa using hV a
    | cons a S ha hS ih => rw [Finset.fold_cons]; exact hmax _ _ (hV a) ih
  have hV' := hP Finset.univ ⟨0, Finset.mem_univ _⟩
  have hb : Ideal.ofBits .f32 0xFF800000#32 = ⊥ := by simp [Ideal.ofBits, Ideal.ieee]
  pointwise
  rcases hA with hA | hA
  · rw [hA]
    simpa [hb] using hV'
  · exact hmax _ _ hA (by simpa [hb] using hV')

/-- The rescaled denominator plus a block's column sums. -/
theorem newSum_at {e : ℕ → EReal} {j : Fin 2048} {V : FVec Ideal S8x2048 .f32} {A B : FVec Ideal S1x2048 .f32}
    (hV : Sums e j 128 V) (h₁ h₂) :
    shapeCast S1x2048 (addf (mulf A B) (shapeCast S1x2048
      (multiReduction .add [0] S2048 V 0x00000000#32 reduces_S8x2048_S2048 h₁ h₂) shapeCasts_S2048_S1x2048))
      shapeCasts_S1x2048_S1x2048 (ix2 0 j) = A (ix2 0 j) * B (ix2 0 j) + ∑ r ∈ Finset.range 1024, e r := by
  pointwise
  have h : ∑ r ∈ Finset.range 1024, e r = ∑ i : Fin 8, V (ix2 i j) := by
    rw [Finset.sum_congr rfl fun i _ => hV i, Finset.sum_comm, Finset.sum_range, Fin.sum_univ_tiles 128 8 rfl,
      Finset.sum_range]
    exact Finset.sum_congr rfl fun k _ => Finset.sum_congr rfl fun i _ => congrArg e (by simp only [Nat.mul_comm])
  rw [h]

/-- The running column sums of the second block. -/
theorem sum1_at (j : Fin 2048) (μ : EReal)
    (hμ : sl.r_51 c arg3 harg3 arg4 harg4 arg7 arg11 arg12 arg15 x0 x1 (ix2 0 j) = μ) :
    sl.v2169 c arg3 harg3 arg4 harg4 arg7 arg9 arg10 arg11 arg12 arg15 arg16 x0 x1 (ix2 0 j)
      = sl.r_52 c arg3 harg3 arg4 harg4 arg7 arg11 arg12 arg15 x0 x1 (ix2 0 j)
          * sl.v2133 c arg3 harg3 arg4 harg4 arg7 arg9 arg11 arg15 arg16 x0 x1 (ix2 0 j)
        + ∑ r ∈ Finset.range 1024, Ideal.exp2 (scoreSeq x0 x1 j (1024 + r) - μ) := by
  unfold sl.v2169 sl.HS9_3
  refine (readWhole_at _ _ (by decide) _ _ _ _ (ix2 0 j) (fun b => by fin_cases b <;> simp)).trans ?_
  unfold k0_pay351
  refine newSum_at (e := fun r => Ideal.exp2 (scoreSeq x0 x1 j (1024 + r) - μ)) ?_ _ _
  dsimp only [
    sl.r_51, sl.r_85, sl.r_86, sl.v2109, sl.v2121, sl.v2097, sl.r_83, sl.v2061, sl.v2073, sl.v2085, sl.r_80, sl.r_81,
    sl.r_82, sl.v2025, sl.v2037, sl.v2049, sl.r_78, sl.v1977, sl.v1989, sl.v2001, sl.v2013, sl.r_76, sl.r_77,
    sl.v1941, sl.v1953, sl.v1965, sl.r_74, sl.v1893, sl.v1905, sl.v1917, sl.v1929, sl.r_72, sl.r_73, sl.v1857,
    sl.v1869, sl.v1881, sl.r_70, sl.v1809, sl.v1821, sl.v1833, sl.v1845, sl.r_68, sl.v1761, sl.r_69, sl.v1773,
    sl.v1785, sl.v1797, sl.r_66, sl.v1725, sl.v1737, sl.v1749, sl.r_65, sl.v1677, sl.v1689, sl.v1701, sl.v1713,
    sl.r_63, sl.v1641, sl.v1653, sl.v1665, sl.r_62, sl.v1593, sl.v1605, sl.v1617, sl.v1629, sl.r_61, sl.v1557,
    sl.v1569, sl.v1581, sl.r_59, sl.v1509, sl.v1521, sl.v1533, sl.v1545, sl.r_57, sl.r_58, sl.v1473, sl.v1485,
    sl.v1497, sl.r_55, sl.v1425, sl.v1437, sl.v1449, sl.v1461, sl.r_53, sl.r_54, sl.v1389, sl.v1401, sl.v1413,
    sl.v1377, sl.v1365, k0_pay344, k0_pay345, k0_pay336, k0_pay340, k0_pay338, k0_pay342, k0_pay326, k0_pay328,
    k0_pay329, k0_pay335, k0_pay331, k0_pay333, k0_pay318, k0_pay321, k0_pay325, k0_pay323, k0_pay309, k0_pay311,
    k0_pay317, k0_pay315, k0_pay313, k0_pay301, k0_pay306, k0_pay308, k0_pay304, k0_pay291, k0_pay293, k0_pay294,
    k0_pay298, k0_pay296, k0_pay300, k0_pay283, k0_pay286, k0_pay290, k0_pay288, k0_pay273, k0_pay275, k0_pay276,
    k0_pay278, k0_pay282, k0_pay280, k0_pay265, k0_pay270, k0_pay268, k0_pay272, k0_pay256, k0_pay264, k0_pay258,
    k0_pay262, k0_pay260, k0_pay248, k0_pay255, k0_pay253, k0_pay251, k0_pay239, k0_pay241, k0_pay243, k0_pay247,
    k0_pay245, k0_pay232, k0_pay238, k0_pay234, k0_pay236, k0_pay223, k0_pay225, k0_pay229, k0_pay231, k0_pay227,
    k0_pay215, k0_pay216, k0_pay222, k0_pay218, k0_pay220, k0_pay206, k0_pay212, k0_pay208, k0_pay210, k0_pay214,
    k0_pay198, k0_pay199, k0_pay205, k0_pay203, k0_pay201, k0_pay196, k0_pay347, k0_pay349] at hμ ⊢
  repeat' (with_reducible first
    | exact Sums.zero _ _
    | refine Sums.step _ (Rows.exp _ (s1_read c arg3 harg3 arg4 harg4 arg7 arg10 x0 x1 j _ _) hμ) ?_ ?_)
  all_goals rfl

/-! ## The exponentials as stored: sixteen rows a store -/

/-- Rows below `n` of column `j` of what the stores `L` left hold the terms `e`. -/
def Filled (e : ℕ → EReal) (j : Fin 2048) (n : ℕ) (L : List (View.Piece (Elt Ideal) S1024x2048 .bf16)) : Prop :=
  ∀ r : Fin 1024, r.val < n → View.canon L (ix2 r j) = e r.val

theorem Filled.nil (e : ℕ → EReal) (j : Fin 2048) : Filled e j 0 [] := fun r h => absurd h (Nat.not_lt_zero _)

theorem Filled.store {e : ℕ → EReal} {j : Fin 2048} {o : ℕ} {L : List (View.Piece (Elt Ideal) S1024x2048 .bf16)}
    {X : FVec Ideal S16x2048 .f32} (inb) (h) (h') (hX : Rows e j o (n := 16) X) (hL : Filled e j o L) :
    Filled e j (o + 16) (⟨Rect.unit (s := S1024x2048) ![o, 0] ![16, 2048] inb,
      shapeCast S16x2048 (truncf .bf16 X h) h'⟩ :: L) := by
  intro r hr
  have ho : o + 16 ≤ 1024 := by simpa using inb 0
  by_cases hlt : r.val < o
  · rw [View.canon_cons_of_not_mem]
    · exact hL r hlt
    · rw [Rect.mem_set_unit]
      intro hm
      have := (hm 0).1
      simp only [ix2_0, Matrix.cons_val_zero] at this
      omega
  · have hi : ix2 r j = (Rect.unit (s := S1024x2048) ![o, 0] ![16, 2048] inb).emb (ix2 ⟨r.val - o, by omega⟩ j) :=
      funext fun a => Fin.ext ((Rect.idx_unit_val _ _ inb _ a).symm ▸ by fin_cases a <;> simp <;> omega)
    rw [hi, View.canon_cons_emb]
    have := hX ⟨r.val - o, by omega⟩
    pointwise
    rw [this]
    congr 1
    simp only
    omega

/-- The first block's stored exponentials. -/
theorem p0_at (j : Fin 2048) (μ : EReal)
    (hμ : sl.r_14 c arg3 harg3 arg4 harg4 arg7 arg11 arg15 x0 x1 (ix2 0 j) = μ) (r : Fin 1024) :
    sl.v2147 c arg3 harg3 arg4 harg4 arg7 arg9 arg11 arg13 arg15 x0 x1 (ix2 r j)
      = Ideal.exp2 (scoreSeq x0 x1 j r.val - μ) := by
  unfold sl.v2147
  refine (readCov_at _ _ _ _ (ix2 r j) (fun b => by fin_cases b <;> simp)).trans ?_
  refine (?_ : Filled (fun r => Ideal.exp2 (scoreSeq x0 x1 j r - μ)) j 1024 _) r r.isLt
  dsimp only [
    sl.HS6_64, sl.r_14, sl.r_15, sl.r_16, sl.r_17, sl.r_18, sl.r_19, sl.r_20, sl.r_21, sl.r_22, sl.r_23, sl.r_24,
    sl.r_25, sl.r_26, sl.r_27, sl.r_28, sl.r_29, sl.r_30, sl.r_31, sl.r_32, sl.r_33, sl.r_34, sl.r_35, sl.r_36,
    sl.r_37, sl.r_38, sl.r_39, sl.r_40, sl.r_41, sl.r_42, sl.r_43, sl.r_44, sl.r_45, sl.r_46, sl.r_47, sl.r_48,
    sl.r_49, sl.r_50, sl.v1309, sl.v1321, sl.v1333, sl.v1261, sl.v1273, sl.v1285, sl.v1297, sl.v1225, sl.v1237,
    sl.v1249, sl.v1177, sl.v1189, sl.v1201, sl.v1213, sl.v1141, sl.v1153, sl.v1165, sl.v1093, sl.v1105, sl.v1117,
    sl.v1129, sl.v1057, sl.v1069, sl.v1081, sl.v1045, sl.v1009, sl.v1021, sl.v1033, sl.v973, sl.v985, sl.v997,
    sl.v925, sl.v937, sl.v949, sl.v961, sl.v889, sl.v901, sl.v913, sl.v841, sl.v853, sl.v865, sl.v877, sl.v805,
    sl.v817, sl.v829, sl.v757, sl.v769, sl.v781, sl.v793, sl.v709, sl.v721, sl.v733, sl.v745, sl.v673, sl.v685,
    sl.v697, sl.v625, sl.v637, sl.v649, sl.v661, sl.v589, sl.v601, sl.v613, sl.v577, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191] at hμ ⊢
  repeat' (with_reducible first
    | exact Filled.nil _ _
    | refine Filled.store _ _ _ (Rows.exp _ (s0_read c arg3 harg3 arg4 harg4 arg7 arg9 x0 x1 j _ _) hμ) ?_)

/-- The second block's stored exponentials. -/
theorem p1_at (j : Fin 2048) (μ : EReal)
    (hμ : sl.r_51 c arg3 harg3 arg4 harg4 arg7 arg11 arg12 arg15 x0 x1 (ix2 0 j) = μ) (r : Fin 1024) :
    sl.v2159 c arg3 harg3 arg4 harg4 arg7 arg10 arg11 arg12 arg14 arg15 x0 x1 (ix2 r j)
      = Ideal.exp2 (scoreSeq x0 x1 j (1024 + r.val) - μ) := by
  unfold sl.v2159
  refine (readCov_at _ _ _ _ (ix2 r j) (fun b => by fin_cases b <;> simp)).trans ?_
  refine (?_ : Filled (fun r => Ideal.exp2 (scoreSeq x0 x1 j (1024 + r) - μ)) j 1024 _) r r.isLt
  dsimp only [
    sl.HS7_64, sl.r_51, sl.r_53, sl.r_54, sl.r_55, sl.r_56, sl.r_57, sl.r_58, sl.r_59, sl.r_60, sl.r_61, sl.r_62,
    sl.r_63, sl.r_64, sl.r_65, sl.r_66, sl.r_67, sl.r_68, sl.r_69, sl.r_70, sl.r_71, sl.r_72, sl.r_73, sl.r_74,
    sl.r_75, sl.r_76, sl.r_77, sl.r_78, sl.r_79, sl.r_80, sl.r_81, sl.r_82, sl.r_83, sl.r_84, sl.r_85, sl.r_86,
    sl.v2109, sl.v2121, sl.v2097, sl.v2061, sl.v2073, sl.v2085, sl.v2025, sl.v2037, sl.v2049, sl.v1977, sl.v1989,
    sl.v2001, sl.v2013, sl.v1941, sl.v1953, sl.v1965, sl.v1893, sl.v1905, sl.v1917, sl.v1929, sl.v1857, sl.v1869,
    sl.v1881, sl.v1809, sl.v1821, sl.v1833, sl.v1845, sl.v1761, sl.v1773, sl.v1785, sl.v1797, sl.v1725, sl.v1737,
    sl.v1749, sl.v1677, sl.v1689, sl.v1701, sl.v1713, sl.v1641, sl.v1653, sl.v1665, sl.v1593, sl.v1605, sl.v1617,
    sl.v1629, sl.v1557, sl.v1569, sl.v1581, sl.v1509, sl.v1521, sl.v1533, sl.v1545, sl.v1473, sl.v1485, sl.v1497,
    sl.v1425, sl.v1437, sl.v1449, sl.v1461, sl.v1389, sl.v1401, sl.v1413, sl.v1377, sl.v1365, k0_pay196, k0_pay197,
    k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350] at hμ ⊢
  repeat' (with_reducible first
    | exact Filled.nil _ _
    | refine Filled.store _ _ _ (Rows.exp _ (s1_read c arg3 harg3 arg4 harg4 arg7 arg10 x0 x1 j _ _) hμ) ?_)

end Cert.AttnIdeal.Tile

end
-- ==== Proof.Attention.Softmax.lean ====
/-
  SOFTMAX OVER REAL SCORES: the mean of arbitrary values under base-two softmax weights, and the two ways to it:
  the running form over two blocks of keys (rescaled sums, one division at the end), and the plain form (each weight
  divided, then summed). Neither depends on the maximum that is subtracted, as long as it is a real number.
-/
module

public import Idealize.ShloMosaic.Lib.Pointwise

@[expose] public section

noncomputable section

namespace Cert.AttnIdeal.Softmax

open Idealize.ShloMosaic

/-- The softmax weight of key `r` under base-two scores `s`. -/
def weight (s : ℕ → ℝ) (r : ℕ) : ℝ := Real.rpow 2 (s r) / ∑ k ∈ Finset.range 2048, Real.rpow 2 (s k)

/-- The mean of the values `v` under the softmax weights. -/
def mix (s : ℕ → ℝ) (v : ℕ → EReal) : EReal := ∑ r ∈ Finset.range 2048, v r * ((weight s r : ℝ) : EReal)

/-- A nonnegative real factor goes into a sum of extended reals. -/
theorem coe_mul_sum {c : ℝ} (hc : 0 ≤ c) (f : ℕ → EReal) (S : Finset ℕ) :
    (c : EReal) * ∑ r ∈ S, f r = ∑ r ∈ S, (c : EReal) * f r := by
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A sum of reals, read among the extended reals. -/
theorem coe_sum {ι : Type} (f : ι → ℝ) (S : Finset ι) : ((∑ r ∈ S, f r : ℝ) : EReal) = ∑ r ∈ S, (f r : EReal) := by
  classical
  induction S using Finset.induction_on with
  | empty => simp
  | insert a S ha ih => rw [Finset.sum_insert ha, Finset.sum_insert ha, EReal.coe_add, ih]

theorem exp2_sub (a b : ℝ) : Ideal.exp2 ((a : EReal) - (b : EReal)) = ((Real.rpow 2 (a - b) : ℝ) : EReal) := by
  rw [← EReal.coe_sub]
  exact Ideal.exp2_coe _

theorem exp_sub (a b : ℝ) : Ideal.exp ((a : EReal) - (b : EReal)) = ((Real.exp (a - b) : ℝ) : EReal) := by
  rw [← EReal.coe_sub]
  exact Ideal.exp_coe _

theorem rpow_pos (a : ℝ) : 0 < Real.rpow 2 a := Real.rpow_pos_of_pos (by norm_num) a

theorem rpow_mul_rpow (a b : ℝ) : Real.rpow 2 a * Real.rpow 2 b = Real.rpow 2 (a + b) :=
  (Real.rpow_add (by norm_num) a b).symm

/-- Terms in proportion to the exponentials of the scores, divided by their sum, are the softmax weights. -/
theorem div_sum (s : ℕ → ℝ) (p : ℕ → ℝ) (c : ℝ) (hc : 0 < c) (hp : ∀ r, p r = Real.rpow 2 (s r) * c) (r : ℕ) :
    p r / ∑ k ∈ Finset.range 2048, p k = weight s r := by
  have hD : ∑ k ∈ Finset.range 2048, p k = (∑ k ∈ Finset.range 2048, Real.rpow 2 (s k)) * c := by
    rw [Finset.sum_mul]
    exact Finset.sum_congr rfl fun k _ => hp k
  rw [hD, hp, weight, mul_div_mul_right _ _ hc.ne']

theorem sum_pos (p : ℕ → ℝ) (hp : ∀ r, 0 < p r) : 0 < ∑ k ∈ Finset.range 2048, p k :=
  Finset.sum_pos (fun k _ => hp k) ⟨0, by simp⟩

/-- A sum over the keys is the sum over the first block plus the sum over the second. -/
theorem sum_blocks {M : Type} [AddCommMonoid M] (f : ℕ → M) :
    ∑ r ∈ Finset.range 2048, f r = ∑ r ∈ Finset.range 1024, f r + ∑ r ∈ Finset.range 1024, f (1024 + r) :=
  Finset.sum_range_add f 1024 1024

/-- The running form over two blocks of keys. The values may be infinite; `a` is the first block's rescaling, which
    multiplies zeros. -/
theorem running (s : ℕ → ℝ) (v : ℕ → EReal) (m₁ m₂ : ℝ) (a : EReal) :
    Ideal.div
      (Ideal.exp2 (m₁ - m₂ : EReal) * (a * 0 + ∑ r ∈ Finset.range 1024, v r * Ideal.exp2 (s r - m₁ : EReal))
        + ∑ r ∈ Finset.range 1024, v (1024 + r) * Ideal.exp2 (s (1024 + r) - m₂ : EReal))
      (Ideal.exp2 (m₁ - m₂ : EReal) * (a * 0 + ∑ r ∈ Finset.range 1024, Ideal.exp2 (s r - m₁ : EReal))
        + ∑ r ∈ Finset.range 1024, Ideal.exp2 (s (1024 + r) - m₂ : EReal)) = mix s v := by
  have hterm (r : ℕ) : Real.rpow 2 (m₁ - m₂) * Real.rpow 2 (s r - m₁) = Real.rpow 2 (s r - m₂) := by
    rw [rpow_mul_rpow]; congr 1; ring
  have hL : Ideal.exp2 (m₁ - m₂ : EReal) * (a * 0 + ∑ r ∈ Finset.range 1024, Ideal.exp2 (s r - m₁ : EReal))
        + ∑ r ∈ Finset.range 1024, Ideal.exp2 (s (1024 + r) - m₂ : EReal)
      = ((∑ r ∈ Finset.range 2048, Real.rpow 2 (s r - m₂) : ℝ) : EReal) := by
    rw [sum_blocks, EReal.coe_add, coe_sum, coe_sum, mul_zero, zero_add, exp2_sub, coe_mul_sum (rpow_pos _).le]
    refine congrArg₂ (· + ·) (Finset.sum_congr rfl fun r _ => ?_) (Finset.sum_congr rfl fun r _ => exp2_sub _ _)
    rw [exp2_sub, ← EReal.coe_mul, hterm]
  have hA : Ideal.exp2 (m₁ - m₂ : EReal) * (a * 0 + ∑ r ∈ Finset.range 1024, v r * Ideal.exp2 (s r - m₁ : EReal))
        + ∑ r ∈ Finset.range 1024, v (1024 + r) * Ideal.exp2 (s (1024 + r) - m₂ : EReal)
      = ∑ r ∈ Finset.range 2048, v r * ((Real.rpow 2 (s r - m₂) : ℝ) : EReal) := by
    rw [sum_blocks, mul_zero, zero_add, exp2_sub, coe_mul_sum (rpow_pos _).le]
    refine congrArg₂ (· + ·) (Finset.sum_congr rfl fun r _ => ?_) (Finset.sum_congr rfl fun r _ => by rw [exp2_sub])
    rw [exp2_sub, mul_left_comm, ← EReal.coe_mul, hterm]
  have hpos : 0 < ∑ r ∈ Finset.range 2048, Real.rpow 2 (s r - m₂) := sum_pos _ fun r => rpow_pos _
  rw [hL, hA, Ideal.div_coe hpos.ne', mul_comm, coe_mul_sum (one_div_pos.2 hpos).le, mix]
  refine Finset.sum_congr rfl fun r _ => ?_
  rw [mul_left_comm, ← EReal.coe_mul, one_div_mul_eq_div,
    div_sum s (fun r => Real.rpow 2 (s r - m₂)) (Real.rpow 2 (-m₂)) (rpow_pos _)
      (fun r => by rw [rpow_mul_rpow, sub_eq_add_neg])]

/-- The plain form, over the natural exponential of the scores times the logarithm of two. -/
theorem plain (s : ℕ → ℝ) (v : ℕ → EReal) (M : ℝ) :
    ∑ r ∈ Finset.range 2048, v r * Ideal.div (Ideal.exp (((s r * Real.log 2 : ℝ) : EReal) - M))
      (∑ k ∈ Finset.range 2048, Ideal.exp (((s k * Real.log 2 : ℝ) : EReal) - M)) = mix s v := by
  have hpos : 0 < ∑ k ∈ Finset.range 2048, Real.exp (s k * Real.log 2 - M) := sum_pos _ fun r => Real.exp_pos _
  have hden : ∑ k ∈ Finset.range 2048, Ideal.exp (((s k * Real.log 2 : ℝ) : EReal) - M)
      = ((∑ k ∈ Finset.range 2048, Real.exp (s k * Real.log 2 - M) : ℝ) : EReal) := by
    rw [coe_sum]
    exact Finset.sum_congr rfl fun k _ => exp_sub _ _
  rw [hden, mix]
  refine Finset.sum_congr rfl fun r _ => ?_
  rw [Ideal.div_coe hpos.ne', exp_sub, ← EReal.coe_mul, mul_one_div,
    div_sum s (fun r => Real.exp (s r * Real.log 2 - M)) (Real.exp (-M)) (Real.exp_pos _) (fun r => by
      show _ = (2 : ℝ) ^ (s r) * _
      rw [Real.rpow_def_of_pos (by norm_num), ← Real.exp_add, mul_comm (s r), sub_eq_add_neg])]

end Cert.AttnIdeal.Softmax

end
-- ==== Proof.Attention.Block.lean ====
/-
  THE ATTENTION KERNEL'S RESULT AT ONE GRID POINT: an entry of the accumulator divided by the denominator is the mean of
  the transposed values' row under the softmax weights of the query's scores.
-/
module

public import proofs.«01_k».proof.Proof.Attention.Tile
public import proofs.«01_k».proof.Proof.Attention.Softmax

@[expose] public section

set_option maxRecDepth 16384

noncomputable section

namespace Cert.AttnIdeal.Tile

open Idealize.ShloMosaic Idealize.ShloMosaic.TcCoe Idealize.SL.Sem
open Cert.AttnIdeal Cert.AttnIdeal.Gen Cert.AttnIdeal.Gen.kernelRun0_B

variable (c : Dev nD)
variable (arg3 : Memref sig .tc .vmem S1x512x512 .bf16) (harg3 : arg3.IsWhole)
variable (arg4 : Memref sig .tc .vmem S1x2048x128 .bf16) (harg4 : arg4.IsWhole)
variable (arg7 : Memref sig .tc .vmem S2048x128 .bf16) (arg8 : Memref sig .tc .vmem S128x2048 .bf16)
  (harg8 : arg8.IsWhole)
variable (arg9 arg10 : Memref sig .tc .vmem S1024x2048 .f32) (arg11 arg12 : Memref sig .tc .vmem S8x2048 .f32)
variable (arg13 arg14 : Memref sig .tc .vmem S1024x2048 .bf16) (arg15 arg16 : Memref sig .tc .vmem S1x2048 .f32)
variable (arg17 : Memref sig .tc .vmem S128x2048 .f32)
variable (x0 : Vec Ideal S1x512x512 .bf16) (x1 : Vec Ideal S1x2048x128 .bf16) (xs1 : Vec Ideal S128x2048 .bf16)

/-- The maximum starts at minus infinity, -/
theorem max0_at (j : Fin 2048) : sl.v569 (F := Ideal) c arg15 (ix2 0 j) = ⊥ := by
  unfold sl.v569 sl.HS8_1
  refine (readWhole_at _ _ (by decide) _ _ _ _ (ix2 0 j) (fun b => by fin_cases b <;> simp)).trans ?_
  pointwise [k0_pay12]
  simp [Ideal.ofBits, Ideal.ieee]

/-- the denominator at zero, -/
theorem den0_at (j : Fin 2048) : sl.v1345 (F := Ideal) c arg16 (ix2 0 j) = 0 := by
  unfold sl.v1345 sl.HS9_1
  refine (readWhole_at _ _ (by decide) _ _ _ _ (ix2 0 j) (fun b => by fin_cases b <;> simp)).trans ?_
  pointwise [k0_pay13]

/-- and the accumulator at zero. -/
theorem acc0_at (d : Fin 128) (j : Fin 2048) : sl.v2149 (F := Ideal) c arg17 (ix2 d j) = 0 := by
  unfold sl.v2149 sl.HS10_1
  refine (readWhole_at _ _ (by decide) _ _ _ _ (ix2 d j) (fun b => by fin_cases b <;> simp)).trans ?_
  pointwise [k0_pay14]

/-- The first block's maximum, read back. -/
theorem max1_at (j : Fin 2048) : sl.v1357 c arg3 harg3 arg4 harg4 arg7 arg11 arg15 x0 x1 (ix2 0 j)
    = sl.r_14 c arg3 harg3 arg4 harg4 arg7 arg11 arg15 x0 x1 (ix2 0 j) := by
  unfold sl.v1357 sl.HS8_2
  refine (readWhole_at _ _ (by decide) _ _ _ _ (ix2 0 j) (fun b => by fin_cases b <;> simp)).trans ?_
  pointwise [k0_pay193]

/-- The first block's denominator, read back. -/
theorem den1_at (j : Fin 2048) (μ : EReal)
    (hμ : sl.r_14 c arg3 harg3 arg4 harg4 arg7 arg11 arg15 x0 x1 (ix2 0 j) = μ) :
    sl.v2133 c arg3 harg3 arg4 harg4 arg7 arg9 arg11 arg15 arg16 x0 x1 (ix2 0 j)
      = sl.r_15 c arg3 harg3 arg4 harg4 arg7 arg11 arg15 x0 x1 (ix2 0 j) * 0
        + ∑ r ∈ Finset.range 1024, Ideal.exp2 (scoreSeq x0 x1 j r - μ) := by
  unfold sl.v2133 sl.HS9_2
  refine (readWhole_at _ _ (by decide) _ _ _ _ (ix2 0 j) (fun b => by fin_cases b <;> simp)).trans ?_
  rw [← den0_at c arg16 j]
  exact newSum_at (sum0_at c arg3 harg3 arg4 harg4 arg7 arg9 arg11 arg15 x0 x1 j μ hμ) _ _

/-- What an entry of the quotient is, whatever holds the transposed values. -/
theorem quotient_at (d : Fin 128) (j : Fin 2048) (s : ℕ → ℝ) (hs : ∀ r : Fin 2048, score x0 x1 r j = (s r.val : EReal))
    (V₀ V₁ : Vec Ideal S128x1024 .bf16) (v : ℕ → EReal) (hV₀ : ∀ r : Fin 1024, V₀ (ix2 d r) = v r.val)
    (hV₁ : ∀ r : Fin 1024, V₁ (ix2 d r) = v (1024 + r.val)) (D : Vec Ideal S128x2048 .f32)
    (hD : D (ix2 d j) = k0_pay353 (sl.r_15 c arg3 harg3 arg4 harg4 arg7 arg11 arg15 x0 x1) V₀
      (sl.v2147 c arg3 harg3 arg4 harg4 arg7 arg9 arg11 arg13 arg15 x0 x1) (sl.v2149 c arg17) (ix2 d j))
    (A : Vec Ideal S128x2048 .f32)
    (hA : A (ix2 d j) = k0_pay354 (sl.r_52 c arg3 harg3 arg4 harg4 arg7 arg11 arg12 arg15 x0 x1) V₁
      (sl.v2159 c arg3 harg3 arg4 harg4 arg7 arg10 arg11 arg12 arg14 arg15 x0 x1) D (ix2 d j)) :
    k0_pay355 A (sl.v2169 c arg3 harg3 arg4 harg4 arg7 arg9 arg10 arg11 arg12 arg15 arg16 x0 x1) (ix2 d j)
      = Softmax.mix s v := by
  have hseq (r : ℕ) (hr : r < 2048) : scoreSeq x0 x1 j r = (s r : EReal) := by rw [scoreSeq_of_lt _ _ _ _ hr, hs]
  have hmax (a b : EReal) (ha : ∃ m : ℝ, a = (m : EReal)) (hb : ∃ m : ℝ, b = (m : EReal)) :
      ∃ m : ℝ, max a b = (m : EReal) := by
    obtain ⟨a, rfl⟩ := ha
    obtain ⟨b, rfl⟩ := hb
    rcases max_choice (a : EReal) (b : EReal) with h | h
    · exact ⟨a, h⟩
    · exact ⟨b, h⟩
  obtain ⟨m₁, hm₁⟩ : ∃ m : ℝ, sl.r_14 c arg3 harg3 arg4 harg4 arg7 arg11 arg15 x0 x1 (ix2 0 j) = (m : EReal) :=
    newMax_at hmax (cm0_at c arg3 harg3 arg4 harg4 arg7 arg11 x0 x1 j _ hmax fun r => ⟨_, hs r⟩)
      (Or.inl (max0_at c arg15 j)) _ _
  obtain ⟨m₂, hm₂⟩ : ∃ m : ℝ, sl.r_51 c arg3 harg3 arg4 harg4 arg7 arg11 arg12 arg15 x0 x1 (ix2 0 j) = (m : EReal) :=
    newMax_at hmax (cm1_at c arg3 harg3 arg4 harg4 arg7 arg12 x0 x1 j _ hmax fun r => ⟨_, hs r⟩)
      (Or.inr ⟨m₁, (max1_at c arg3 harg3 arg4 harg4 arg7 arg11 arg15 x0 x1 j).trans hm₁⟩) _ _
  have hα : sl.r_52 c arg3 harg3 arg4 harg4 arg7 arg11 arg12 arg15 x0 x1 (ix2 0 j) = Ideal.exp2 (m₁ - m₂ : EReal) := by
    rw [← hm₂, ← hm₁, ← max1_at]
    rfl
  have hA' := hA
  pointwise [k0_pay354] at hA'
  have hD' := hD
  pointwise [k0_pay353] at hD'
  pointwise [k0_pay355]
  have hp₀ : ∑ r : Fin 1024, V₀ (ix2 d r) * sl.v2147 c arg3 harg3 arg4 harg4 arg7 arg9 arg11 arg13 arg15 x0 x1 (ix2 r j)
      = ∑ r ∈ Finset.range 1024, v r * Ideal.exp2 (s r - m₁ : EReal) := by
    rw [Finset.sum_range]
    refine Finset.sum_congr rfl fun r _ => ?_
    rw [hV₀, p0_at c arg3 harg3 arg4 harg4 arg7 arg9 arg11 arg13 arg15 x0 x1 j m₁ hm₁, hseq _ (by omega)]
  have hp₁ : ∑ r : Fin 1024,
        V₁ (ix2 d r) * sl.v2159 c arg3 harg3 arg4 harg4 arg7 arg10 arg11 arg12 arg14 arg15 x0 x1 (ix2 r j)
      = ∑ r ∈ Finset.range 1024, v (1024 + r) * Ideal.exp2 (s (1024 + r) - m₂ : EReal) := by
    rw [Finset.sum_range]
    refine Finset.sum_congr rfl fun r _ => ?_
    rw [hV₁, p1_at c arg3 harg3 arg4 harg4 arg7 arg10 arg11 arg12 arg14 arg15 x0 x1 j m₂ hm₂, hseq _ (by omega)]
  have hl₀ : ∑ r ∈ Finset.range 1024, Ideal.exp2 (scoreSeq x0 x1 j r - m₁)
      = ∑ r ∈ Finset.range 1024, Ideal.exp2 (s r - m₁ : EReal) :=
    Finset.sum_congr rfl fun r hr => by rw [hseq _ (by have := Finset.mem_range.1 hr; omega)]
  have hl₁ : ∑ r ∈ Finset.range 1024, Ideal.exp2 (scoreSeq x0 x1 j (1024 + r) - m₂)
      = ∑ r ∈ Finset.range 1024, Ideal.exp2 (s (1024 + r) - m₂ : EReal) :=
    Finset.sum_congr rfl fun r hr => by rw [hseq _ (by have := Finset.mem_range.1 hr; omega)]
  rw [hA', hD', hα, acc0_at, hp₀, hp₁, sum1_at c arg3 harg3 arg4 harg4 arg7 arg9 arg10 arg11 arg12 arg15 arg16 x0 x1 j m₂ hm₂,
    hα, den1_at c arg3 harg3 arg4 harg4 arg7 arg9 arg11 arg15 arg16 x0 x1 j m₁ hm₁, hl₀, hl₁]
  exact Softmax.running s v m₁ m₂ _

/-! ## The four heads of the group, transposed back and stored side by side -/

/-- The stored output at query `q` and feature `e` of the group: head `e / 128`, feature `e % 128` of it. -/
theorem pieces_at (A : Vec Ideal S128x2048 .f32) (L : Vec Ideal S1x2048 .f32) (q : Fin 512) (e : Fin 512) :
    View.canon (Val := Elt Ideal) (s := S1x512x512) (e := .bf16)
      [⟨Rect.unit ![0, 0, 384] ![1, 512, 128] inb_S1x512x512_S1x512x128_0_0_384, k0_pay3 (k0_pay355 A L)⟩,
        ⟨Rect.unit ![0, 0, 256] ![1, 512, 128] inb_S1x512x512_S1x512x128_0_0_256, k0_pay2 (k0_pay355 A L)⟩,
        ⟨Rect.unit ![0, 0, 128] ![1, 512, 128] inb_S1x512x512_S1x512x128_0_0_128, k0_pay1 (k0_pay358 (k0_pay355 A L))⟩,
        ⟨Rect.unit ![0, 0, 0] S1x512x128.size inb_S1x512x512_S1x512x128_0_0_0, k0_pay357 (k0_pay356 A L)⟩] (ix3 0 q e)
      = k0_pay355 A L (ix2 ⟨e.val % 128, by omega⟩ ⟨e.val / 128 * 512 + q.val, by omega⟩) := by
  unfold k0_pay3 k0_pay2 k0_pay1 k0_pay358 k0_pay357 k0_pay356
  generalize k0_pay355 A L = R
  canon_tiles x h
  all_goals
    simp only [ix3_0, ix3_1, ix3_2] at h0 h1 h2
    pointwise
    blk_ext

/-- The transposed values as stored, a quarter of the keys a store. -/
theorem values_at (arg5 : Memref sig .tc .vmem S1x2048x128 .bf16) (harg5 : arg5.IsWhole) (x2 : Vec Ideal S1x2048x128 .bf16)
    (d : Fin 128) (r : Fin 2048) :
    View.canon (kernelRun0_A.sl.HS1_4 c arg5 harg5 x2) (ix2 d r) = x2 (ix3 0 r d) := by
  unfold kernelRun0_A.sl.HS1_4
  canon_tiles x h
  all_goals
    open_payloads
    pointwise
    simp only [ix2_0, ix2_1] at h0 h1
    rw [harg5.read_unread]
    blk_ext

end Cert.AttnIdeal.Tile

end
-- ==== Proof.Attention.Output.lean ====
/-
  WHAT A GRID POINT LEAVES IN ITS OUTPUT BLOCK, whichever of the two cases ran: at the first query tile of a group of
  heads the values are transposed into a scratch, at the other three they are read from it. Either way the scratch
  holds the transposed values of the point, and the block holds the softmax means.
-/
module

public import proofs.«01_k».proof.Proof.Attention.Block

@[expose] public section

set_option maxRecDepth 16384

noncomputable section

namespace Cert.AttnIdeal.Tile

open Idealize.ShloMosaic Idealize.ShloMosaic.TcCoe Idealize.SL.Sem
open Cert.AttnIdeal Cert.AttnIdeal.Gen Cert.AttnIdeal.Gen.kernelRun0_B

variable (c : Dev nD) (i : grid0.Coords)
variable (arg3 : Memref sig .tc .vmem S1x512x512 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x512x512 .bf16) (harg6 : arg6.IsWhole)
  (arg7 : Memref sig .tc .vmem S2048x128 .bf16) (harg7 : arg7.IsWhole)
  (arg8 : Memref sig .tc .vmem S128x2048 .bf16) (harg8 : arg8.IsWhole)
  (arg9 : Memref sig .tc .vmem S1024x2048 .f32) (harg9 : arg9.IsWhole)
  (arg10 : Memref sig .tc .vmem S1024x2048 .f32) (harg10 : arg10.IsWhole)
  (arg11 : Memref sig .tc .vmem S8x2048 .f32) (harg11 : arg11.IsWhole)
  (arg12 : Memref sig .tc .vmem S8x2048 .f32) (harg12 : arg12.IsWhole)
  (arg13 : Memref sig .tc .vmem S1024x2048 .bf16) (harg13 : arg13.IsWhole)
  (arg14 : Memref sig .tc .vmem S1024x2048 .bf16) (harg14 : arg14.IsWhole)
  (arg15 : Memref sig .tc .vmem S1x2048 .f32) (harg15 : arg15.IsWhole)
  (arg16 : Memref sig .tc .vmem S1x2048 .f32) (harg16 : arg16.IsWhole)
  (arg17 : Memref sig .tc .vmem S128x2048 .f32) (harg17 : arg17.IsWhole)
variable (x0 : Vec Ideal S1x512x512 .bf16) (x1 x2 : Vec Ideal S1x2048x128 .bf16) (xs1 : Vec Ideal S128x2048 .bf16)

/-- The values of one feature as a sequence over the keys (zero past the last). -/
def valueSeq (d : Fin 128) (r : ℕ) : EReal := if h : r < 2048 then x2 (ix3 0 ⟨r, h⟩ d) else 0

theorem valueSeq_of_lt (d : Fin 128) (r : ℕ) (h : r < 2048) : valueSeq x2 d r = x2 (ix3 0 ⟨r, h⟩ d) := dif_pos h

/-- The output block where the transposed values are read from the scratch. -/
theorem outB_at (hc : ¬cond0_0 i) (q e : Fin 512) (s : ℕ → ℝ)
    (hs : ∀ r : Fin 2048, score x0 x1 r ⟨e.val / 128 * 512 + q.val, by omega⟩ = (s r.val : EReal))
    (hx : ∀ (d : Fin 128) (r : Fin 2048), xs1 (ix2 d r) = x2 (ix3 0 r d)) :
    out0_B_3 c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc x0 x1 x2 xs1 (ix3 0 q e)
      = Softmax.mix s (valueSeq x2 ⟨e.val % 128, by omega⟩) := by
  unfold out0_B_3
  rw [View.read_writes_junk_eq_canon]
  refine (pieces_at (sl.v2168 c arg3 harg3 arg4 harg4 arg7 arg8 harg8 arg9 arg10 arg11 arg12 arg13 arg14 arg15 arg17 x0 x1 xs1)
    (sl.v2169 c arg3 harg3 arg4 harg4 arg7 arg9 arg10 arg11 arg12 arg15 arg16 x0 x1) q e).trans ?_
  refine quotient_at c arg3 harg3 arg4 harg4 arg7 arg9 arg10 arg11 arg12 arg13 arg14 arg15 arg16 arg17 x0 x1 ⟨e.val % 128, by omega⟩ ⟨e.val / 128 * 512 + q.val, by omega⟩ s hs
    (View.readAt (Elt Ideal) arg8.view (Rect.unit (s := S128x2048) ![0, 0] S128x1024.size inb_S128x2048_S128x1024_0_0).toLoadRect
      (harg8.unread xs1))
    (View.readAt (Elt Ideal) arg8.view (Rect.unit (s := S128x2048) ![0, 1024] S128x1024.size inb_S128x2048_S128x1024_0_1024).toLoadRect
      (harg8.unread xs1)) _ (fun r => ?_) (fun r => ?_)
    (sl.v2161 c arg3 harg3 arg4 harg4 arg7 arg8 harg8 arg9 arg11 arg13 arg15 arg17 x0 x1 xs1) ?_ _ ?_
  · rw [readBlock_at harg8 xs1 _ _ (ix2 ⟨e.val % 128, by omega⟩ ⟨r.val, by omega⟩) (fun a => by fin_cases a <;> simp), hx, valueSeq_of_lt]
  · rw [readBlock_at harg8 xs1 _ _ (ix2 ⟨e.val % 128, by omega⟩ ⟨1024 + r.val, by omega⟩) (fun a => by fin_cases a <;> simp), hx,
      valueSeq_of_lt]
  · unfold sl.v2161 sl.HS10_2
    exact readWhole_at _ _ (by decide) _ _ _ _ _ (fun b => by fin_cases b <;> simp)
  · unfold sl.v2168 sl.HS10_3
    exact readWhole_at _ _ (by decide) _ _ _ _ _ (fun b => by fin_cases b <;> simp)

/-- The output block where the values are transposed first. -/
theorem outA_at (hc : cond0_0 i) (q e : Fin 512) (s : ℕ → ℝ)
    (hs : ∀ r : Fin 2048, score x0 x1 r ⟨e.val / 128 * 512 + q.val, by omega⟩ = (s r.val : EReal)) :
    out0_A_3 c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc x0 x1 x2 (ix3 0 q e)
      = Softmax.mix s (valueSeq x2 ⟨e.val % 128, by omega⟩) := by
  unfold out0_A_3
  rw [View.read_writes_junk_eq_canon]
  refine (pieces_at (kernelRun0_A.sl.v2168 c arg3 harg3 arg4 harg4 arg5 harg5 arg7 arg8 arg9 arg10 arg11 arg12 arg13 arg14 arg15 arg17 x0 x1 x2)
    (kernelRun0_A.sl.v2169 c arg3 harg3 arg4 harg4 arg7 arg9 arg10 arg11 arg12 arg15 arg16 x0 x1) q e).trans ?_
  refine quotient_at c arg3 harg3 arg4 harg4 arg7 arg9 arg10 arg11 arg12 arg13 arg14 arg15 arg16 arg17 x0 x1 ⟨e.val % 128, by omega⟩ ⟨e.val / 128 * 512 + q.val, by omega⟩ s hs
    (kernelRun0_A.sl.v2146 c arg5 harg5 arg8 x2) (kernelRun0_A.sl.v2158 c arg5 harg5 arg8 x2) _ (fun r => ?_) (fun r => ?_)
    (kernelRun0_A.sl.v2161 c arg3 harg3 arg4 harg4 arg5 harg5 arg7 arg8 arg9 arg11 arg13 arg15 arg17 x0 x1 x2) ?_ _ ?_
  · unfold kernelRun0_A.sl.v2146
    rw [readCov_at _ _ _ _ (ix2 ⟨e.val % 128, by omega⟩ ⟨r.val, by omega⟩) (fun a => by fin_cases a <;> simp), values_at, valueSeq_of_lt]
  · unfold kernelRun0_A.sl.v2158
    rw [readCov_at _ _ _ _ (ix2 ⟨e.val % 128, by omega⟩ ⟨1024 + r.val, by omega⟩) (fun a => by fin_cases a <;> simp), values_at, valueSeq_of_lt]
  · unfold kernelRun0_A.sl.v2161 kernelRun0_A.sl.HS10_2
    exact (readWhole_at _ _ (by decide) _ _ _ _ _ (fun b => by fin_cases b <;> simp)).trans rfl
  · unfold kernelRun0_A.sl.v2168 kernelRun0_A.sl.HS10_3
    exact (readWhole_at _ _ (by decide) _ _ _ _ _ (fun b => by fin_cases b <;> simp)).trans rfl

/-- The scratch after the transposition. -/
theorem scratchA_at (hc : cond0_0 i) (d : Fin 128) (r : Fin 2048) :
    sout0_A_1 c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc x0 x1 x2 (ix2 d r) = x2 (ix3 0 r d) := by
  unfold sout0_A_1
  rw [View.read_writes_junk_eq_canon]
  exact values_at c arg5 harg5 x2 d r

end Cert.AttnIdeal.Tile

end
-- ==== Proof.Attention.Spec.lean ====
/-
  GROUPED-QUERY ATTENTION OVER ONE PROJECTED ARRAY, as a function of the array: columns 0–2047 hold sixteen heads of
  queries, 2048–2559 four heads of keys, 2560–3071 four heads of values (128 columns a head, four query heads a key head).
-/
module

public import proofs.«01_k».proof.Proof.Attention.Softmax
public import Idealize.ShloMosaic.Lib.Pointwise

@[expose] public section

noncomputable section

namespace Cert.AttnIdeal.Spec

open Idealize.ShloMosaic

/-- The projected array, read at (batch, token, column). -/
abbrev Proj : Type := (⟨3, ![8, 2048, 5120]⟩ : Shape).Idx → EReal

variable (X : Proj)

/-- The base-two score of token `r`'s key for head `h`'s query at token `q`. -/
def score (b : Fin 8) (q : Fin 2048) (h : Fin 16) (r : Fin 2048) : EReal :=
  ∑ d : Fin 128, X (ix3 b r ⟨2048 + h.val / 4 * 128 + d.val, by omega⟩) * X (ix3 b q ⟨h.val * 128 + d.val, by omega⟩)

/-- The scores as reals, in a sequence over the keys. -/
def realScore (b : Fin 8) (q : Fin 2048) (h : Fin 16) (r : ℕ) : ℝ :=
  if hr : r < 2048 then (score X b q h ⟨r, hr⟩).toReal else 0

/-- The values of feature `d` for head `h`, in a sequence over the keys. -/
def value (b : Fin 8) (h : Fin 16) (d : Fin 128) (r : ℕ) : EReal :=
  if hr : r < 2048 then X (ix3 b ⟨r, hr⟩ ⟨2560 + h.val / 4 * 128 + d.val, by omega⟩) else 0

/-- The attention's result at (batch, token, column): head `f / 128`, feature `f % 128`. -/
def attention (b : Fin 8) (q : Fin 2048) (f : Fin 2048) : EReal :=
  Softmax.mix (realScore X b q ⟨f.val / 128, by omega⟩) (value X b ⟨f.val / 128, by omega⟩ ⟨f.val % 128, by omega⟩)

/-- The attention's result as an array. -/
def result (y : (⟨3, ![8, 2048, 2048]⟩ : Shape).Idx) : EReal := attention X (y 0) (y 1) (y 2)

theorem result_ix3 (b : Fin 8) (q f : Fin 2048) : result X (ix3 b q f) = attention X b q f := rfl

/-- Every query and every key is a real number. -/
def RealQueriesKeys : Prop := ∀ (b : Fin 8) (t : Fin 2048) (k : Fin 5120), k.val < 2560 → ∃ x : ℝ, X (ix3 b t k) = (x : EReal)

variable {X}

/-- Then so is every score. -/
theorem score_eq (hX : RealQueriesKeys X) (b : Fin 8) (q : Fin 2048) (h : Fin 16) (r : Fin 2048) :
    score X b q h r = (realScore X b q h r.val : EReal) := by
  have hreal : ∃ x : ℝ, score X b q h r = (x : EReal) := by
    have hterm (d : Fin 128) : ∃ x : ℝ, X (ix3 b r ⟨2048 + h.val / 4 * 128 + d.val, by omega⟩)
        * X (ix3 b q ⟨h.val * 128 + d.val, by omega⟩) = (x : EReal) := by
      obtain ⟨x, hx⟩ := hX b r ⟨2048 + h.val / 4 * 128 + d.val, by omega⟩ (by simp only; omega)
      obtain ⟨y, hy⟩ := hX b q ⟨h.val * 128 + d.val, by omega⟩ (by simp only; omega)
      exact ⟨x * y, by rw [hx, hy, EReal.coe_mul]⟩
    choose f hf using hterm
    refine ⟨∑ d ∈ Finset.range 128, if hd : d < 128 then f ⟨d, hd⟩ else 0, ?_⟩
    rw [Softmax.coe_sum, Finset.sum_range, score]
    exact Finset.sum_congr rfl fun d _ => by rw [hf, dif_pos d.isLt]
  obtain ⟨x, hx⟩ := hreal
  rw [realScore, dif_pos r.isLt, Fin.eta, hx, EReal.toReal_coe]

end Cert.AttnIdeal.Spec

end
-- ==== Proof.Attention.Whole.lean ====
/-
  THE ATTENTION KERNEL'S ARRAY: grid point `t` is batch `t / 16`, group of heads `t / 4 % 4`, query tile `t % 4`; its
  output block holds the attention of its place in the array, and the blocks cover the array.
-/
module

public import proofs.«01_k».proof.Proof.Attention.Output
public import proofs.«01_k».proof.Proof.Attention.Spec

@[expose] public section

set_option maxRecDepth 16384

noncomputable section

namespace Cert.AttnIdeal.Whole

open Idealize.ShloMosaic Idealize.ShloMosaic.TcCoe Idealize.SL.Sem
open Cert.AttnIdeal Cert.AttnIdeal.Gen

variable (m : (ℓ : Loc nD τ sig) → Buf (Elt Ideal) ℓ) (c : Dev nD)

theorem idx : ∀ t : Fin cfg0.N, win0_0.index t = ![t.val / 16, t.val % 4, t.val / 4 % 4]
    ∧ win0_1.index t = ![t.val / 16, 0, 16 + t.val / 4 % 4] ∧ win0_2.index t = ![t.val / 16, 0, 20 + t.val / 4 % 4]
    ∧ win0_3.index t = ![t.val / 16, t.val % 4, t.val / 4 % 4] := (by decide +kernel : ∀ t : Fin grid0.N, _)

/-- The projected array. -/
def proj : Spec.Proj := m ((c : Thread nD τ).loc main_arg0)

/-- A point's scores are the array's. -/
theorem score_block (t : Fin cfg0.N) (ht : t.val < 128) (q e : Fin 512) (r : Fin 2048) :
    Tile.score (iblk m c 0 t) (iblk m c 1 t) r ⟨e.val / 128 * 512 + q.val, by omega⟩
      = Spec.score (proj m c) ⟨t.val / 16, by omega⟩ ⟨t.val % 4 * 512 + q.val, by omega⟩
          ⟨(t.val / 4 % 4 * 512 + e.val) / 128, by omega⟩ r := by
  unfold Tile.score Spec.score proj
  blk_point [iblk, V, idx t]

/-- A point's values are the array's. -/
theorem value_block (t : Fin cfg0.N) (ht : t.val < 128) (e : Fin 512) :
    Tile.valueSeq (iblk m c 2 t) ⟨e.val % 128, by omega⟩
      = Spec.value (proj m c) ⟨t.val / 16, by omega⟩ ⟨(t.val / 4 % 4 * 512 + e.val) / 128, by omega⟩
          ⟨(t.val / 4 % 4 * 512 + e.val) % 128, by omega⟩ := by
  funext r
  unfold Tile.valueSeq Spec.value proj
  split
  · blk_ext [iblk, V, idx t]
  · rfl

/-- The scratch holds the transposed values of the point, whichever case ran at it. -/
theorem scratch_at (n : ℕ) (hn : n < cfg0.N) (d : Fin 128) (r : Fin 2048) :
    (outsAt0 m c n hn).2 (ix2 d r) = iblk m c 2 ⟨n, hn⟩ (ix3 0 r d) := by
  induction n with
  | zero =>
    rw [outsAt0_A m c ⟨0, hn⟩ rfl]
    dsimp only
    rw [Tile.scratchA_at]
  | succ n ih =>
    by_cases h0 : (n + 1) % 4 = 0
    · rw [outsAt0_A m c ⟨n + 1, hn⟩ h0]
      dsimp only
      rw [Tile.scratchA_at]
    · rw [outsAt0_B m c ⟨n + 1, hn⟩ h0]
      have hn' : n < cfg0.N := by omega
      refine (ih hn').trans ?_
      have e₁ : (n + 1) / 16 = n / 16 := by omega
      have e₂ : (n + 1) / 4 % 4 = n / 4 % 4 := by omega
      blk_ext [iblk, V, idx ⟨n, hn'⟩, idx ⟨n + 1, hn⟩]

/-- A point's output block, at an index. -/
theorem block_at (hX : Spec.RealQueriesKeys (proj m c)) (t : Fin cfg0.N) (ht : t.val < 128) (q e : Fin 512) :
    (outsAt0 m c t.val t.isLt).1 (ix3 0 q e)
      = Spec.attention (proj m c) ⟨t.val / 16, by omega⟩ ⟨t.val % 4 * 512 + q.val, by omega⟩
          ⟨t.val / 4 % 4 * 512 + e.val, by omega⟩ := by
  rw [Spec.attention, ← value_block m c t ht e]
  by_cases h0 : t.val % 4 = 0
  · rw [outsAt0_A m c t h0]
    dsimp only
    rw [Tile.outA_at (hs := fun r => (score_block m c t ht q e r).trans (Spec.score_eq hX _ _ _ r))]
  · rw [outsAt0_B m c t h0]
    dsimp only
    rw [Tile.outB_at (hs := fun r => (score_block m c t ht q e r).trans (Spec.score_eq hX _ _ _ r))]
    intro d r
    rw [scratch_at m c (t.val - 1) (by omega)]
    have e₁ : (t.val - 1) / 16 = t.val / 16 := by omega
    have e₂ : (t.val - 1) / 4 % 4 = t.val / 4 % 4 := by omega
    blk_ext [iblk, V, idx t, idx ⟨t.val - 1, by omega⟩]

/-- THE KERNEL'S RESULT is the attention of the projected array. -/
theorem final (hX : Spec.RealQueriesKeys (proj m c)) : (dats m 0 c).arrAt 3 cfg0.N = Spec.result (proj m c) := by
  refine (dats m 0 c).arrAt_eq_of_covers 3 _ (by decide +kernel) fun t _ y => ?_
  blk_simp
  rw [after0_3]
  have ht : t.val < 128 := lt_of_lt_of_eq t.isLt N_0
  idx_vars y
  obtain rfl : y0 = 0 := by omega
  rw [block_at m c hX t ht y1 y2, ← Spec.result_ix3]
  blk_ext [idx t]

end Cert.AttnIdeal.Whole

end
-- ==== Proof.Attention.Reference.lean ====
/-
  THE REFERENCE'S ATTENTION, read at an index: recovered queries, scores, softmax and the mean of the values, one lemma
  each, ending in the attention of Spec.lean.
-/
module

public import proofs.«01_k».proof.Proof.Attention.Spec
public import proofs.«01_k».proof.Proof.Gen.AttnRefIdeal.Read
public import Idealize.ShloMosaic.Lib.Pointwise

@[expose] public section

set_option maxRecDepth 16384

noncomputable section

namespace Cert.AttnRefIdeal.Attention

open Idealize.ShloMosaic Cert.AttnIdeal
open Cert.AttnRefIdeal Cert.AttnRefIdeal.Gen Cert.AttnRefIdeal.Read

/-- The softmax scale, `128 ^ (-1/2)` in single precision, as a real. -/
theorem scale_coe : ∃ s : ℝ, s ≠ 0 ∧ Ideal.ofBits .f32 0x3DB504F3#32 = (s : EReal) := by
  refine ⟨11863283 / 134217728, by norm_num, ?_⟩
  simp [Ideal.ofBits, Ideal.ieee]
  rw [← EReal.coe_mul]
  norm_num

theorem two_coe : Ideal.ofBits .f32 0x40000000#32 = ((2 : ℝ) : EReal) := by
  simp [Ideal.ofBits, Ideal.ieee]
  rw [← EReal.coe_mul]
  norm_num

variable (X : Spec.Proj) (b : Fin 8) (q r : Fin 2048) (h : Fin 16) (d : Fin 128)

theorem key_at : val_main_v7 (F := Ideal) X (ix4 b r ⟨h.val / 4, by omega⟩ d)
    = X (ix3 b r ⟨2048 + h.val / 4 * 128 + d.val, by omega⟩) := by
  pointwise [val_main_v7, val_main_v6, val_main_v0]
  exact congrArg X (congrArg (ix3 b r) (Fin.ext (by simp only; omega)))

theorem value_at : val_main_v9 (F := Ideal) X (ix4 b r ⟨h.val / 4, by omega⟩ d)
    = X (ix3 b r ⟨2560 + h.val / 4 * 128 + d.val, by omega⟩) := by
  pointwise [val_main_v9, val_main_v8, val_main_v0]
  exact congrArg X (congrArg (ix3 b r) (Fin.ext (by simp only; omega)))

theorem query_at : val_main_v10 (F := Ideal) X (ix5 b q ⟨h.val / 4, by omega⟩ ⟨h.val % 4, by omega⟩ d)
    = X (ix3 b q ⟨h.val * 128 + d.val, by omega⟩)
      * Ideal.div (Ideal.log (Ideal.ofBits .f32 0x40000000#32)) (Ideal.ofBits .f32 0x3DB504F3#32) := by
  pointwise [val_main_v10, val_main_v5, val_main_v1, val_main_v4, val_main_v3, val_main_v2, val_main_cst, val_main_cst_0, val_main_v0]
  exact congrArg (X · * _) (congrArg (ix3 b q) (Fin.ext (by simp only; omega)))

theorem score_at : val_main_v14 (F := Ideal) X (ix5 b ⟨h.val / 4, by omega⟩ ⟨h.val % 4, by omega⟩ q r)
    = (∑ d : Fin 128, val_main_v7 (F := Ideal) X (ix4 b r ⟨h.val / 4, by omega⟩ d)
        * val_main_v10 (F := Ideal) X (ix5 b q ⟨h.val / 4, by omega⟩ ⟨h.val % 4, by omega⟩ d))
      * Ideal.ofBits .f32 0x3DB504F3#32 := by
  pointwise [val_main_v14, val_main_v12, val_main_v11, val_main_v13, val_main_cst_1]

/-- The maximum the scores are shifted by. -/
def shift : EReal := val_main_v17 (F := Ideal) X (ix4 b ⟨h.val / 4, by omega⟩ ⟨h.val % 4, by omega⟩ q)

/-- A maximum along the last axis, from minus infinity. -/
theorem maximum_at (y : FVec Ideal S8x4x4x2048x2048 .f32) (g j : Fin 4) :
    Host.reduce FloatOps.maximumf y (constant (F := Ideal) S_ .f32 0xFF800000#32) reducesTo_S8x4x4x2048x2048_S8x4x4x2048_d4 h_S_ (ix4 b g j q)
      = (Finset.univ : Finset (Fin 2048)).fold max (Ideal.ofBits .f32 0xFF800000#32) fun r => y (ix5 b g j q r) := by
  pointwise

theorem shift_at : shift X b q h
    = (Finset.univ : Finset (Fin 2048)).fold max ⊥
        fun r => val_main_v14 (F := Ideal) X (ix5 b ⟨h.val / 4, by omega⟩ ⟨h.val % 4, by omega⟩ q r) := by
  have hb : Ideal.ofBits .f32 0xFF800000#32 = ⊥ := by simp [Ideal.ofBits, Ideal.ieee]
  have h15 : val_main_v15 (F := Ideal) X (ix4 b ⟨h.val / 4, by omega⟩ ⟨h.val % 4, by omega⟩ q)
      = (Finset.univ : Finset (Fin 2048)).fold max ⊥
        fun r => val_main_v14 (F := Ideal) X (ix5 b ⟨h.val / 4, by omega⟩ ⟨h.val % 4, by omega⟩ q r) := by
    rw [← hb]
    unfold val_main_v15 val_main_cst_2
    generalize val_main_v14 (F := Ideal) X = y
    exact maximum_at b q y _ _
  unfold shift
  rw [val_main_v17_apply, h15, val_main_v16_apply, val_main_cst_3_apply]
  generalize (Finset.univ : Finset (Fin 2048)).fold (max : EReal → EReal → EReal) ⊥ _ = M
  show max (Ideal.ofBits .f32 0xFF800000#32) M = M
  rw [hb, max_bot_left]

theorem exp_at : val_main_v21 (F := Ideal) X (ix5 b ⟨h.val / 4, by omega⟩ ⟨h.val % 4, by omega⟩ q r)
    = Ideal.exp (val_main_v14 (F := Ideal) X (ix5 b ⟨h.val / 4, by omega⟩ ⟨h.val % 4, by omega⟩ q r) - shift X b q h) := by
  unfold shift
  pointwise [val_main_v21, val_main_v20, val_main_v19, val_main_v18]

theorem weight_at : val_main_v25 (F := Ideal) X (ix5 b ⟨h.val / 4, by omega⟩ ⟨h.val % 4, by omega⟩ q r)
    = Ideal.div (val_main_v21 (F := Ideal) X (ix5 b ⟨h.val / 4, by omega⟩ ⟨h.val % 4, by omega⟩ q r))
      (∑ k : Fin 2048, val_main_v21 (F := Ideal) X (ix5 b ⟨h.val / 4, by omega⟩ ⟨h.val % 4, by omega⟩ q k)) := by
  pointwise [val_main_v25, val_main_v24, val_main_v23, val_main_v22, val_main_cst_4]

theorem result_at (f : Fin 2048) : val_main_v29 (F := Ideal) X (ix3 b q f)
    = ∑ r : Fin 2048, val_main_v9 (F := Ideal) X (ix4 b r ⟨f.val / 128 / 4, by omega⟩ ⟨f.val % 128, by omega⟩)
        * val_main_v25 (F := Ideal) X (ix5 b ⟨f.val / 128 / 4, by omega⟩ ⟨f.val / 128 % 4, by omega⟩ q r) := by
  pointwise [val_main_v29, val_main_v28, val_main_v27, val_main_v26, Nat.div_div_eq_div_mul]

variable {X}

/-- The reference's scores, natural exponentials' exponents: the base-two scores times the logarithm of two. -/
theorem score_eq (hX : Spec.RealQueriesKeys X) :
    val_main_v14 (F := Ideal) X (ix5 b ⟨h.val / 4, by omega⟩ ⟨h.val % 4, by omega⟩ q r)
      = ((Spec.realScore X b q h r.val * Real.log 2 : ℝ) : EReal) := by
  obtain ⟨s, hs, hs'⟩ := scale_coe
  have hc : Ideal.div (Ideal.log (Ideal.ofBits .f32 0x40000000#32)) (Ideal.ofBits .f32 0x3DB504F3#32)
      = ((Real.log 2 / s : ℝ) : EReal) := by
    rw [two_coe, hs', Ideal.log_coe, if_neg (by norm_num), Ideal.div_coe hs, ← EReal.coe_mul, mul_one_div]
  have hk (d : Fin 128) := hX b r ⟨2048 + h.val / 4 * 128 + d.val, by omega⟩ (by simp only; omega)
  have hq (d : Fin 128) := hX b q ⟨h.val * 128 + d.val, by omega⟩ (by simp only; omega)
  choose k hk using hk
  choose p hp using hq
  have hreal : Spec.realScore X b q h r.val = ∑ d, k d * p d := by
    have := Spec.score_eq hX b q h r
    rw [← EReal.coe_eq_coe_iff, ← this, Spec.score, Softmax.coe_sum]
    exact Finset.sum_congr rfl fun d _ => by rw [hk, hp, EReal.coe_mul]
  rw [score_at, hs', hreal]
  have hterm (d : Fin 128) : val_main_v7 (F := Ideal) X (ix4 b r ⟨h.val / 4, by omega⟩ d)
        * val_main_v10 (F := Ideal) X (ix5 b q ⟨h.val / 4, by omega⟩ ⟨h.val % 4, by omega⟩ d)
      = ((k d * (p d * (Real.log 2 / s)) : ℝ) : EReal) := by
    rw [key_at, query_at, hc, hk, hp, EReal.coe_mul, EReal.coe_mul]
  rw [Finset.sum_congr rfl fun d _ => hterm d, ← Softmax.coe_sum, ← EReal.coe_mul, EReal.coe_eq_coe_iff, Finset.sum_mul,
    Finset.sum_mul]
  exact Finset.sum_congr rfl fun d _ => by field_simp

/-- The shift is a real number. -/
theorem shift_real (hX : Spec.RealQueriesKeys X) : ∃ M : ℝ, shift X b q h = (M : EReal) := by
  have hP : ∀ S : Finset (Fin 2048), S.Nonempty → ∃ M : ℝ, S.fold max ⊥ (fun r =>
      val_main_v14 (F := Ideal) X (ix5 b ⟨h.val / 4, by omega⟩ ⟨h.val % 4, by omega⟩ q r)) = (M : EReal) := by
    intro S hS
    induction hS using Finset.Nonempty.cons_induction with
    | singleton a => exact ⟨_, by rw [Finset.fold_singleton, score_eq b q a h hX, max_bot_right]⟩
    | cons a S ha hS ih =>
      obtain ⟨M, hM⟩ := ih
      exact ⟨max _ M, by rw [Finset.fold_cons, hM, score_eq b q a h hX, EReal.coe_strictMono.monotone.map_max]⟩
  rw [shift_at]
  exact hP _ ⟨0, Finset.mem_univ _⟩

/-- THE REFERENCE'S RESULT is the attention of the projected array. -/
theorem result_eq (hX : Spec.RealQueriesKeys X) : val_main_v29 (F := Ideal) X = Spec.result X := by
  funext y
  idx_vars y
  rw [Spec.result_ix3, Spec.attention, result_at]
  obtain ⟨M, hM⟩ := shift_real y0 y1 ⟨y2.val / 128, by omega⟩ hX
  rw [← Softmax.plain _ _ M, Finset.sum_range]
  have hexp (r : Fin 2048) :
      val_main_v21 (F := Ideal) X (ix5 y0 ⟨y2.val / 128 / 4, by omega⟩ ⟨y2.val / 128 % 4, by omega⟩ y1 r)
        = Ideal.exp (((Spec.realScore X y0 y1 ⟨y2.val / 128, by omega⟩ r.val * Real.log 2 : ℝ) : EReal) - M) := by
    rw [exp_at X y0 y1 r ⟨y2.val / 128, by omega⟩, score_eq y0 y1 r ⟨y2.val / 128, by omega⟩ hX, hM]
  refine Finset.sum_congr rfl fun r _ => ?_
  rw [weight_at X y0 y1 r ⟨y2.val / 128, by omega⟩, value_at X y0 r ⟨y2.val / 128, by omega⟩, Spec.value, dif_pos r.isLt,
    hexp, Finset.sum_congr rfl fun k _ => hexp k, Finset.sum_range]

end Cert.AttnRefIdeal.Attention

end
-- ==== Proof.Attention.Precondition.lean ====
/-
  THE PRECONDITION, read at an index: every query and every key is a real number.
-/
module

public import proofs.«01_k».proof.Proof.Attention.Spec
public import proofs.«01_k».proof.Proof.Gen.Pre_finite_queries_and_keys
public import Idealize.ShloMosaic.Lib.Pointwise

@[expose] public section

set_option maxRecDepth 16384

noncomputable section

namespace Cert.AttnIdeal.Precondition

open Idealize.ShloMosaic Cert.AttnIdeal
open Cert.Pre_finite_queries_and_keys Cert.Pre_finite_queries_and_keys.Gen

theorem real_of_fn (X : Spec.Proj) (h : Cert.Pre_finite_queries_and_keys.fn (F := Ideal) X = fun _ => 1#1) :
    Spec.RealQueriesKeys X := by
  intro b t k hk
  have hb : Ideal.ofBits .f32 0xFF800000#32 = ⊥ := by simp [Ideal.ofBits, Ideal.ieee]
  have ht : Ideal.ofBits .f32 0x7F800000#32 = ⊤ := by simp [Ideal.ofBits, Ideal.ieee]
  have hpt := congrFun h (ix3 b t ⟨k.val, hk⟩)
  revert hpt
  pointwise [Cert.Pre_finite_queries_and_keys.fn]
  rw [hb, ht]
  generalize X (ix3 b t k) = x
  intro hx
  have h1 : ⊥ < x := by
    by_contra hn
    rw [decide_eq_false hn] at hx
    revert hx
    generalize decide (x < ⊤) = p
    cases p <;> decide
  have h2 : x < ⊤ := by
    by_contra hn
    rw [decide_eq_false hn, decide_eq_true h1] at hx
    exact absurd hx (by decide)
  exact ⟨x.toReal, (EReal.coe_toReal h2.ne h1.ne').symm⟩

end Cert.AttnIdeal.Precondition

end
-- ==== Proof.FeedForward.Up.lean ====
/-
  THE FEED-FORWARD'S FIRST CALL: `silu (h · w_gate) * (h · w_up)` for the last layer's weights. What a tile of the kernel
  computes, what its array ends holding, and that the reference holds the same.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section

set_option maxRecDepth 16384

noncomputable section

namespace Cert.UpIdeal.FeedForward

open Idealize.ShloMosaic Idealize.ShloMosaic.TcCoe Idealize.SL.Sem
open Cert.UpIdeal Cert.UpIdeal.Gen

/-- The hidden states, at (token, channel). -/
abbrev Hidden : Type := (⟨2, ![16384, 4096]⟩ : Shape).Idx → EReal

/-- A stacked weight, at (layer, channel, feature). -/
abbrev Weight : Type := (⟨3, ![2, 4096, 11008]⟩ : Shape).Idx → EReal

/-- A product with the last layer's weight. -/
def product (H : Hidden) (W : Weight) (r : Fin 16384) (f : Fin 11008) : EReal :=
  ∑ k : Fin 4096, H (ix2 r k) * W (ix3 1 k f)

/-- `x / (1 + exp (-x))`. -/
def silu (x : EReal) : EReal := Ideal.div x (1 + Ideal.exp (-x))

/-- The gated product, as an array. -/
def result (H : Hidden) (Wg Wu : Weight) (y : (⟨2, ![16384, 11008]⟩ : Shape).Idx) : EReal :=
  silu (product H Wg (y 0) (y 1)) * product H Wu (y 0) (y 1)

theorem result_ix2 (H : Hidden) (Wg Wu : Weight) (r : Fin 16384) (f : Fin 11008) :
    result H Wg Wu (ix2 r f) = silu (product H Wg r f) * product H Wu r f := rfl

/-- A quotient is the product with the reciprocal, as long as the divisor isn't zero. -/
theorem mul_div_one (x : EReal) {y : EReal} (hy : y ≠ 0) : x * Ideal.div 1 y = Ideal.div x y := by
  rw [Ideal.div, Ideal.div, if_neg hy, if_neg hy, one_mul]

theorem exp_nonneg (x : EReal) : 0 ≤ Ideal.exp x := by
  induction x with
  | bot => exact le_refl (0 : EReal)
  | top => exact (le_top : (0 : EReal) ≤ ⊤)
  | coe r => rw [Ideal.exp_coe]; exact_mod_cast (Real.exp_pos r).le

theorem one_add_exp_ne_zero (x : EReal) : 1 + Ideal.exp x ≠ 0 := by
  have h : (0 : EReal) < 1 + Ideal.exp x := lt_of_lt_of_le one_pos (le_add_of_nonneg_right (exp_nonneg x))
  exact h.ne'

variable (m : (ℓ : Loc nD τ sig) → Buf (Elt Ideal) ℓ) (c : Dev nD)

/-- The block index of each window at a grid point: row block `t / 43`, feature block `t % 43`. -/
theorem idx : ∀ t : Fin cfg0.N, win0_0.index t = ![t.val / 43, 0] ∧ win0_1.index t = ![1, 0, t.val % 43]
    ∧ win0_2.index t = ![1, 0, t.val % 43] ∧ win0_3.index t = ![t.val / 43, t.val % 43] :=
  (by decide +kernel : ∀ t : Fin grid0.N, _)

/-- What a grid point stores, at an index of its block. -/
theorem tile_at (x0 : FVec Ideal S1024x4096 .bf16) (x1 x2 : FVec Ideal S1x4096x256 .f32) (a : Fin 1024) (b : Fin 256) :
    k0_pay1 (F := Ideal) x0 x1 x2 (ix2 a b)
      = silu (∑ k : Fin 4096, x0 (ix2 a k) * x1 (ix3 0 k b))
        * ∑ k : Fin 4096, x0 (ix2 a k) * x2 (ix3 0 k b) := by
  unfold silu
  pointwise [k0_pay1]
  rw [zero_sub]

/-- THE KERNEL'S RESULT. -/
theorem final : (dats m 0 c).arrAt 3 cfg0.N = result (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  obtain ⟨h0, h1, h2, h3⟩ := idx t
  rw [tile_at]
  unfold result product
  blk_point [iblk, V, h0, h1, h2, h3]

open Cert.UpRefIdeal.Read in
/-- THE REFERENCE'S RESULT. -/
theorem reference_eq (H : Hidden) (Wg Wu : Weight) : val_main_v9 (F := Ideal) H Wg Wu = result H Wg Wu := by
  funext y
  idx_vars y
  rw [result_ix2]
  unfold silu product
  rw [← mul_div_one _ (one_add_exp_ne_zero _)]
  pointwise [val_main_v9, val_main_v8, val_main_v7, val_main_v6, val_main_v5, val_main_v4, val_main_v3, val_main_v2,
    val_main_v1, val_main_v0, val_main_call0_v0, val_main_call0_v1, val_main_call0_v2, val_main_call0_v3,
    val_main_call0_v4, val_main_call0_v5, val_main_call0_cst, val_main_call0_cst_0]

end Cert.UpIdeal.FeedForward

end
-- ==== Proof.FeedForward.Down.lean ====
/-
  THE FEED-FORWARD'S SECOND CALL: the residual stream plus the gate times `act · w_down`, for the last layer's weights. What a
  tile of the kernel computes, what its array ends holding, and that the reference holds the same.
-/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DownIdeal.FeedForward

open Idealize.ShloMosaic Idealize.ShloMosaic.TcCoe Idealize.SL.Sem
open Cert.DownIdeal Cert.DownIdeal.Gen

/-- The gate's array, at (token, feature). -/
abbrev Act : Type := (⟨2, ![16384, 11008]⟩ : Shape).Idx → EReal

/-- The stacked weight, at (layer, feature, channel). -/
abbrev Weight : Type := (⟨3, ![2, 11008, 4096]⟩ : Shape).Idx → EReal

/-- The residual stream, at (token, channel). -/
abbrev Stream : Type := (⟨2, ![16384, 4096]⟩ : Shape).Idx → EReal

/-- The modulation, at (sequence, row, channel). -/
abbrev Modulation : Type := (⟨3, ![16, 6, 4096]⟩ : Shape).Idx → EReal

/-- Token `r`'s channel `d` after the feed-forward: sequence `r / 2048`'s gate is row 5 of its modulation. -/
def channel (A : Act) (W : Weight) (X : Stream) (M : Modulation) (r : Fin 16384) (d : Fin 4096) : EReal :=
  X (ix2 r d) + M (ix3 ⟨r.val / 2048, by omega⟩ 5 d) * ∑ k : Fin 11008, A (ix2 r k) * W (ix3 1 k d)

/-- The stream after the feed-forward, as an array. -/
def result (A : Act) (W : Weight) (X : Stream) (M : Modulation) (y : (⟨2, ![16384, 4096]⟩ : Shape).Idx) : EReal :=
  channel A W X M (y 0) (y 1)

theorem result_ix2 (A : Act) (W : Weight) (X : Stream) (M : Modulation) (r : Fin 16384) (d : Fin 4096) :
    result A W X M (ix2 r d) = channel A W X M r d := rfl

variable (m : (ℓ : Loc nD τ sig) → Buf (Elt Ideal) ℓ) (c : Dev nD)

/-- The block index of each window at a grid point: row block `t / 8`, channel block `t % 8`, sequence `t / 32`. -/
theorem idx : ∀ t : Fin cfg0.N, win0_0.index t = ![t.val / 8, 0] ∧ win0_1.index t = ![1, 0, t.val % 8]
    ∧ win0_2.index t = ![t.val / 8, t.val % 8] ∧ win0_3.index t = ![t.val / 32, 0, t.val % 8]
    ∧ win0_4.index t = ![t.val / 8, t.val % 8] :=
  (by decide +kernel : ∀ t : Fin grid0.N, _)

/-- What a grid point stores, at an index of its block. -/
theorem tile_at (x0 : FVec Ideal S512x11008 .bf16) (x1 : FVec Ideal S1x11008x512 .bf16) (x2 : FVec Ideal S512x512 .f32)
    (x3 : FVec Ideal S1x1x512 .f32) (a b : Fin 512) :
    k0_pay1 (F := Ideal) x0 x1 x2 x3 (ix2 a b)
      = x2 (ix2 a b) + x3 (ix3 0 0 b) * ∑ k : Fin 11008, x0 (ix2 a k) * x1 (ix3 0 k b) := by
  pointwise [k0_pay1]

/-- A point's features are the array's. -/
theorem act_block (t : Fin cfg0.N) (ht : t.val < 256) (a : Fin 512) (k : Fin 11008) :
    iblk m c 0 t (ix2 a k) = m ((c : Thread nD τ).loc main_arg0) (ix2 ⟨t.val / 8 * 512 + a.val, by omega⟩ k) := by
  blk_ext [iblk, V, (idx t).1]

/-- A point's weights are the last layer's, as the host's cast leaves them. -/
theorem weight_block (t : Fin cfg0.N) (b : Fin 512) (k : Fin 11008) :
    iblk m c 1 t (ix3 0 k b) = m ((c : Thread nD τ).loc main_arg1) (ix3 1 k ⟨t.val % 8 * 512 + b.val, by omega⟩) := by
  blk_ext [iblk, (idx t).2.1]

/-- A point's stream is the array's. -/
theorem stream_block (t : Fin cfg0.N) (ht : t.val < 256) (a b : Fin 512) :
    iblk m c 2 t (ix2 a b) = m ((c : Thread nD τ).loc main_arg2)
      (ix2 ⟨t.val / 8 * 512 + a.val, by omega⟩ ⟨t.val % 8 * 512 + b.val, by omega⟩) := by
  blk_ext [iblk, V, (idx t).2.2.1]

/-- The kernel's load of row 5. -/
theorem row_five (x : Vec Ideal S1x6x512 .f32) (b : Fin 512) :
    View.ld (Val := Elt Ideal) (e' := .f32) x r0_3 (ix3 0 0 b) = x (ix3 0 5 b) := by
  show x (r0_3.idx (ix3 0 0 b)) = x (ix3 0 5 b)
  refine congrArg x (funext fun a => Fin.ext ?_)
  match a with
  | ⟨0, _⟩ => rfl
  | ⟨1, _⟩ => rfl
  | ⟨2, _⟩ => show 0 + 1 * b.val = b.val; omega

/-- A point's gate is row 5 of its sequence's modulation. -/
theorem gate_block (t : Fin cfg0.N) (ht : t.val < 256) (b : Fin 512) :
    View.ld (iblk m c 3 t) r0_3 (ix3 0 0 b) = m ((c : Thread nD τ).loc main_arg3)
      (ix3 ⟨t.val / 32, by omega⟩ 5 ⟨t.val % 8 * 512 + b.val, by omega⟩) := by
  rw [row_five]
  blk_ext [iblk, V, (idx t).2.2.2.1]

/-- THE KERNEL'S RESULT. -/
theorem final : (dats m 0 c).arrAt 4 cfg0.N = result (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 256 := lt_of_lt_of_eq t.isLt N_0
  blk_simp
  rw [after0_4]
  frame_out
  idx_vars y
  rw [tile_at, stream_block m c t ht, gate_block m c t ht]
  simp only [act_block m c t ht, weight_block m c t]
  trans result (m ((c : Thread nD τ).loc main_arg0)) (m ((c : Thread nD τ).loc main_arg1))
    (m ((c : Thread nD τ).loc main_arg2)) (m ((c : Thread nD τ).loc main_arg3))
    (ix2 ⟨t.val / 8 * 512 + y0.val, by omega⟩ ⟨t.val % 8 * 512 + y1.val, by omega⟩)
  · rw [result_ix2, channel]
    have e : (⟨(t.val / 8 * 512 + y0.val) / 2048, by omega⟩ : Fin 16) = ⟨t.val / 32, by omega⟩ := Fin.ext (by simp only; omega)
    rw [e]
  · blk_ext [(idx t).2.2.2.2]

open Cert.DownRefIdeal.Read in
/-- THE REFERENCE'S RESULT. -/
theorem reference_eq (A : Act) (W : Weight) (X : Stream) (M : Modulation) :
    val_main_v12 (F := Ideal) A W X M = result A W X M := by
  funext y
  idx_vars y
  rw [result_ix2]
  unfold channel
  pointwise [val_main_v12, val_main_v11, val_main_v10, val_main_v9, val_main_v8, val_main_v7, val_main_v6, val_main_v5,
    val_main_v4, val_main_v3, val_main_v2, val_main_v1, val_main_v0]

end Cert.DownIdeal.FeedForward

end
-- ==== Proof.Norm.Final.lean ====
/-
  THE LAST NORM: each token's residual stream scaled to root mean square one and by the channel's gain. What a tile of the
  kernel computes, what its array ends holding, and that the reference holds the same.
-/
module

public import proofs.«01_k».proof.Proof.Gen.FinalIdeal.Value
public import proofs.«01_k».proof.Proof.Gen.FinalRefIdeal.Read
public import proofs.«01_k».proof.Proof.Gen.FinalSampleRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FinalIdeal.Norm

open Idealize.ShloMosaic Idealize.ShloMosaic.TcCoe Idealize.SL.Sem
open Cert.FinalIdeal Cert.FinalIdeal.Gen

/-- The residual stream, at (token, channel). -/
abbrev Stream : Type := (⟨2, ![16384, 4096]⟩ : Shape).Idx → EReal

/-- The gain, at a channel. -/
abbrev Gain : Type := (⟨1, ![4096]⟩ : Shape).Idx → EReal

/-- The reciprocal root mean square of `4096` values. -/
def scale (v : Fin 4096 → EReal) : EReal :=
  Ideal.rsqrt (Ideal.div (∑ k, v k * v k) (Ideal.ofBits .f32 0x45800000#32) + Ideal.ofBits .f32 0x358637BD#32)

/-- The normed stream, as an array. -/
def result (X : Stream) (g : Gain) (y : (⟨2, ![16384, 4096]⟩ : Shape).Idx) : EReal :=
  X (ix2 (y 0) (y 1)) * scale (fun k => X (ix2 (y 0) k)) * g (ix1 (y 1))

theorem result_ix2 (X : Stream) (g : Gain) (r : Fin 16384) (d : Fin 4096) :
    result X g (ix2 r d) = X (ix2 r d) * scale (fun k => X (ix2 r k)) * g (ix1 d) := rfl

variable (m : (ℓ : Loc nD τ sig) → Buf (Elt Ideal) ℓ) (c : Dev nD)

/-- The block index of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- What a grid point stores, at an index of its block. -/
theorem tile_at (x0 : FVec Ideal S256x4096 .f32) (x1 : FVec Ideal S1x4096 .f32) (a : Fin 256) (b : Fin 4096) :
    k0_pay1 (F := Ideal) x0 x1 (ix2 a b) = x0 (ix2 a b) * scale (fun k => x0 (ix2 a k)) * x1 (ix2 0 b) := by
  unfold scale
  pointwise [k0_pay1]

/-- THE KERNEL'S RESULT. -/
theorem final : (dats m 0 c).arrAt 2 cfg0.N = result (m ((c : Thread nD τ).loc main_arg0))
    (m ((c : Thread nD τ).loc main_arg1)) := by
  refine (dats m 0 c).arrAt_eq_of_covers 2 _ (by decide +kernel) fun t _ y => ?_
  have ht : t.val < 64 := lt_of_lt_of_eq t.isLt N_0
  blk_simp
  rw [after0_2]
  frame_out
  idx_vars y
  obtain ⟨h0, h1, h2⟩ := idx t
  have hr (k : Fin 4096) : iblk m c 0 t (ix2 y0 k)
      = m ((c : Thread nD τ).loc main_arg0) (ix2 ⟨t.val * 256 + y0.val, by omega⟩ k) := by
    blk_point [iblk, V, h0]
  have hg : iblk m c 1 t (ix2 0 y1) = m ((c : Thread nD τ).loc main_arg1) (ix1 y1) := by
    blk_point [iblk, V, h1]
  rw [tile_at]
  simp only [hr, hg]
  rw [← result_ix2]
  blk_ext [h2]

open Cert.FinalRefIdeal.Read in
/-- THE REFERENCE'S RESULT. -/
theorem reference_eq (X : Stream) (g : Gain) : val_main_v14 (F := Ideal) X g = result X g := by
  funext y
  idx_vars y
  rw [result_ix2]
  unfold scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

open Cert.FinalSampleRefIdeal.Read in
/-- THE REFERENCE'S RESULT, the tokens taken as one sequence. -/
theorem sample_reference_eq (X : Stream) (g : Gain) : val_main_v14 (F := Ideal) X g = result X g := by
  funext y
  idx_vars y
  rw [result_ix2]
  unfold scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

end Cert.FinalIdeal.Norm

end
-- ==== Proof.Output.Mixed.lean ====
/-
  THE OUTPUT PROJECTION'S SCRATCH: the eight trips of the loop fill it with the two normalised head groups, side by side.
-/
module

public import proofs.«01_k».proof.Proof.Gen.OutIdeal.Value
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.Claim

@[expose] public section

set_option maxRecDepth 16384

noncomputable section

namespace Cert.OutIdeal.Output

open Idealize.ShloMosaic Idealize.ShloMosaic.TcCoe Idealize.SL.Sem
open Cert.OutIdeal Cert.OutIdeal.Gen

/-- The reciprocal root mean square of `2048` values. -/
def scale (v : Fin 2048 → EReal) : EReal :=
  Ideal.rsqrt (Ideal.div (∑ k, v k * v k) (Ideal.ofBits .f32 0x45000000#32) + Ideal.ofBits .f32 0x358637BD#32)

/-- A row of the first head group normalised, at a channel. -/
theorem first_at (x : FVec Ideal S128x2048 .bf16) (g : FVec Ideal S1x2048 .f32) (a : Fin 128) (b : Fin 2048) :
    k0_pay3 (F := Ideal) x g (ix2 a b) = x (ix2 a b) * scale (fun k => x (ix2 a k)) * g (ix2 0 b) := by
  unfold scale
  pointwise [k0_pay3]

/-- A row of the second head group normalised, at a channel. -/
theorem second_at (x : FVec Ideal S128x2048 .bf16) (g : FVec Ideal S1x2048 .f32) (a : Fin 128) (b : Fin 2048) :
    k0_pay1 (F := Ideal) (k0_pay4 (F := Ideal) x g) (ix2 a b)
      = x (ix2 a b) * scale (fun k => x (ix2 a k)) * g (ix2 0 b) := by
  unfold scale
  pointwise [k0_pay1, k0_pay4]

/-- What a grid point stores, at an index of its block. -/
theorem tile_at (w : FVec Ideal S1024x4096 .bf16) (x4 : FVec Ideal S1x4096x512 .bf16) (x5 : FVec Ideal S1024x512 .f32)
    (x6 : FVec Ideal S1x1x512 .f32) (a : Fin 1024) (b : Fin 512) :
    k0_pay2 (F := Ideal) w x4 x5 x6 (ix2 a b)
      = x5 (ix2 a b) + x6 (ix3 0 0 b) * ∑ k : Fin 4096, w (ix2 a k) * x4 (ix3 0 k b) := by
  pointwise [k0_pay2]

/-- A load through a unit rectangle of a scratch reads what was stored there, at the placed index. -/
theorem readCov_at {Val : EltTy → Type} [∀ e, Nonempty (Val e)] {κ : Kind} {sp : Space} {s : Shape} {e : EltTy}
    (v : View sig κ sp s e) (L : List (View.Piece Val s e)) {off size : Fin s.rank → Nat} (inb)
    (y : (Rect.unit off size inb).shape.Idx) (i : s.Idx) (hi : ∀ a, (i a : Nat) = off a + y a) :
    v.readCov L (Rect.unit off size inb).toLoadRect y = View.canon L i := by
  rw [View.readCov_eq_canon']
  exact congrArg (View.canon L) (funext fun a => Fin.ext ((Rect.idx_unit_val off size inb y a).trans (hi a).symm))

/-- A load through a unit rectangle of a staged block reads the block at the placed index. -/
theorem readBlock_at {Val : EltTy → Type} {κ : Kind} {sp : Space} {s : Shape} {e : EltTy} {m : Memref sig κ sp s e}
    (h : m.IsWhole) (X : s.Idx → Val e) {off size : Fin s.rank → Nat} (inb)
    (y : (Rect.unit off size inb).shape.Idx) (i : s.Idx) (hi : ∀ a, (i a : Nat) = off a + y a) :
    m.view.readAt Val (Rect.unit off size inb).toLoadRect (h.unread X) y = X i := by
  rw [h.readAt_unread]
  exact congrArg X (funext fun a => Fin.ext ((Rect.idx_unit_val off size inb y a).trans (hi a).symm))

section Trip

variable (c : Dev nD) (i : grid0.Coords)
  (arg2 : Memref sig .tc .vmem S1024x2048 .bf16) (harg2 : arg2.IsWhole) (arg3 : Memref sig .tc .vmem S1024x2048 .bf16) (harg3 : arg3.IsWhole)
  (arg4 : Memref sig .tc .vmem S1x2048 .f32) (harg4 : arg4.IsWhole) (arg5 : Memref sig .tc .vmem S1x2048 .f32) (harg5 : arg5.IsWhole)
  (arg6 : Memref sig .tc .vmem S1x4096x512 .bf16) (harg6 : arg6.IsWhole) (arg7 : Memref sig .tc .vmem S1024x512 .f32) (harg7 : arg7.IsWhole)
  (arg8 : Memref sig .tc .vmem S1x6x512 .f32) (harg8 : arg8.IsWhole) (arg9 : Memref sig .tc .vmem S1024x512 .f32) (harg9 : arg9.IsWhole)
  (arg10 : Memref sig .tc .vmem S1024x4096 .bf16) (harg10 : arg10.IsWhole)
  (x0 x1 : Vec Ideal S1024x2048 .bf16) (x2 x3 : Vec Ideal S1x2048 .f32)

/-- What one trip stores. -/
theorem trip_pieces (hc : k0_cond1 i = 1#1) (k : Fin k0_t1_loop.trips) :
    tripL_k0_t1 (F := Ideal) Variants.none c none i arg2 harg2 arg3 harg3 arg4 harg4 arg5 harg5 arg6 harg6 arg7 harg7 arg8 harg8 arg9 harg9
      arg10 harg10 hc (harg2.unread x0) (harg3.unread x1) (harg4.unread x2) (harg5.unread x3) k
      = [⟨Rect.unit (s := S1024x4096) (k0_off3 k) S128x2048.size (k0_off3_inb i k hc), k0_pay1 (F := Ideal) (k0_pay4 (F := Ideal)
          (View.readAt (Elt Ideal) arg3.view (Rect.unit (s := S1024x2048) (k0_off1 k) S128x2048.size (k0_off1_inb i k hc)).toLoadRect (harg3.unread x1))
          (View.readAt (Elt Ideal) arg5.view (Rect.unit (s := S1x2048) ![0, 0] S1x2048.size inb_S1x2048_S1x2048_0_0).toLoadRect (harg5.unread x3)))⟩,
         ⟨Rect.unit (s := S1024x4096) (k0_off2 k) S128x2048.size (k0_off2_inb i k hc), k0_pay3 (F := Ideal)
          (View.readAt (Elt Ideal) arg2.view (Rect.unit (s := S1024x2048) (k0_off1 k) S128x2048.size (k0_off1_inb i k hc)).toLoadRect (harg2.unread x0))
          (View.readAt (Elt Ideal) arg4.view (Rect.unit (s := S1x2048) ![0, 0] S1x2048.size inb_S1x2048_S1x2048_0_0).toLoadRect (harg4.unread x2))⟩] := by
  unfold tripL_k0_t1 trip_k0_t1
  rfl

/-- One row of the two normalised head groups side by side. -/
def mixedRow (u v g h : Fin 2048 → EReal) (k : Fin 4096) : EReal :=
  if hk : k.val < 2048 then u ⟨k.val, hk⟩ * scale u * g ⟨k.val, hk⟩
  else v ⟨k.val - 2048, by omega⟩ * scale v * h ⟨k.val - 2048, by omega⟩

/-- The two blocks normalised, side by side. -/
def mixed (y : S1024x4096.Idx) : EReal :=
  mixedRow (fun k => x0 (ix2 (y 0) k)) (fun k => x1 (ix2 (y 0) k)) (fun k => x2 (ix2 0 k)) (fun k => x3 (ix2 0 k)) (y 1)

theorem mixed_first (r : Fin 1024) (d : Fin 2048) : mixed x0 x1 x2 x3 (ix2 r ⟨d.val, by omega⟩)
    = x0 (ix2 r d) * scale (fun k => x0 (ix2 r k)) * x2 (ix2 0 d) := by
  show mixedRow _ _ _ _ ⟨d.val, _⟩ = _
  exact dif_pos d.isLt

theorem mixed_second (r : Fin 1024) (d : Fin 2048) : mixed x0 x1 x2 x3 (ix2 r ⟨2048 + d.val, by omega⟩)
    = x1 (ix2 r d) * scale (fun k => x1 (ix2 r k)) * x3 (ix2 0 d) := by
  have e : (⟨2048 + d.val - 2048, by omega⟩ : Fin 2048) = d := Fin.ext (by simp only; omega)
  show mixedRow _ _ _ _ ⟨2048 + d.val, _⟩ = _
  unfold mixedRow
  rw [dif_neg (by simp only; omega), e]
  rfl

omit x2 x3 in
/-- A trip's load of its rows. -/
theorem rows_at {arg : Memref sig .tc .vmem S1024x2048 .bf16} (harg : arg.IsWhole) (x : Vec Ideal S1024x2048 .bf16) (hc : k0_cond1 i = 1#1)
    (k : Fin k0_t1_loop.trips) (hk : k.val < 8) (a : Fin 128) (b : Fin 2048) :
    View.readAt (Elt Ideal) arg.view (Rect.unit (s := S1024x2048) (k0_off1 k) S128x2048.size (k0_off1_inb i k hc)).toLoadRect (harg.unread x)
      (ix2 a b) = x (ix2 ⟨128 * k.val + a.val, by omega⟩ b) := by
  refine readBlock_at harg x _ (ix2 a b) (ix2 ⟨128 * k.val + a.val, by omega⟩ b) (fun d => ?_)
  refine Eq.trans ?_ (congrArg (· + _) (congrFun (k0_off1_eq k) d)).symm
  match d with
  | ⟨0, _⟩ => rfl
  | ⟨1, _⟩ => exact (Nat.zero_add _).symm

omit x0 x1 in
/-- A trip's load of a gain. -/
theorem gain_at {arg : Memref sig .tc .vmem S1x2048 .f32} (harg : arg.IsWhole) (x : Vec Ideal S1x2048 .f32) (b : Fin 2048) :
    View.readAt (Elt Ideal) arg.view (Rect.unit (s := S1x2048) ![0, 0] S1x2048.size inb_S1x2048_S1x2048_0_0).toLoadRect (harg.unread x)
      (ix2 0 b) = x (ix2 0 b) := by
  refine readBlock_at harg x _ (ix2 0 b) (ix2 0 b) (fun d => ?_)
  match d with
  | ⟨0, _⟩ => rfl
  | ⟨1, _⟩ => exact (Nat.zero_add _).symm

/-- The pieces of the trips before `n` are blocks of the normalised groups. -/
theorem pieces_of (hc : k0_cond1 i = 1#1) (n : ℕ) (hn : n ≤ k0_t1_loop.trips) :
    View.PiecesOf (Val := Elt Ideal) (e := .bf16) (mixed x0 x1 x2 x3) (pb_k0_t1 (F := Ideal) Variants.none c none i arg2 harg2 arg3 harg3 arg4 harg4 arg5 harg5 arg6 harg6
      arg7 harg7 arg8 harg8 arg9 harg9 arg10 harg10 hc (harg2.unread x0) (harg3.unread x1) (harg4.unread x2) (harg5.unread x3) n) := by
  induction n with
  | zero => exact trivial
  | succ n ih =>
    have e := pb_k0_t1_succ (F := Ideal) Variants.none c none i arg2 harg2 arg3 harg3 arg4 harg4 arg5 harg5 arg6 harg6
      arg7 harg7 arg8 harg8 arg9 harg9 arg10 harg10 hc (harg2.unread x0) (harg3.unread x1) (harg4.unread x2) (harg5.unread x3) ⟨n, hn⟩
    rw [show n + 1 = (⟨n, hn⟩ : Fin k0_t1_loop.trips).val + 1 from rfl, e, trip_pieces]
    have hn8 : n < 8 := hn
    refine ⟨fun y => ?_, fun y => ?_, ih (Nat.le_of_succ_le hn)⟩
    · idx_vars y
      refine (second_at _ _ y0 y1).trans ?_
      refine (congrArg (_ * ·) (gain_at harg5 x3 y1)).trans ?_
      simp only [rows_at i harg3 x1 hc ⟨n, hn⟩ hn8]
      rw [← mixed_second x0 x1 x2 x3]
      refine congrArg (mixed x0 x1 x2 x3) (funext fun a => Fin.ext ?_)
      refine Eq.symm ((Rect.idx_unit_val _ _ _ _ a).trans ?_)
      refine (congrArg (· + _) (congrFun (k0_off3_eq ⟨n, hn⟩) a)).trans ?_
      match a with
      | ⟨0, _⟩ => rfl
      | ⟨1, _⟩ => rfl
    · idx_vars y
      refine (first_at _ _ y0 y1).trans ?_
      refine (congrArg (_ * ·) (gain_at harg4 x2 y1)).trans ?_
      simp only [rows_at i harg2 x0 hc ⟨n, hn⟩ hn8]
      rw [← mixed_first x0 x1 x2 x3]
      refine congrArg (mixed x0 x1 x2 x3) (funext fun a => Fin.ext ?_)
      refine Eq.symm ((Rect.idx_unit_val _ _ _ _ a).trans ?_)
      refine (congrArg (· + _) (congrFun (k0_off2_eq ⟨n, hn⟩) a)).trans ?_
      match a with
      | ⟨0, _⟩ => rfl
      | ⟨1, _⟩ => exact Nat.zero_add _

/-- What case A's run leaves in the scratch. -/
theorem scratch_pieces (hc : cond0_0 i) (x4 : Vec Ideal S1x4096x512 .bf16) (x5 : Vec Ideal S1024x512 .f32) (x6 : Vec Ideal S1x6x512 .f32) :
    (kernelRun0_A (F := Ideal) c i arg2 harg2 arg3 harg3 arg4 harg4 arg5 harg5 arg6 harg6 arg7 harg7 arg8 harg8 arg9 harg9 arg10 harg10 hc x0 x1 x2 x3 x4 x5 x6).2.1
      = pb_k0_t1 (F := Ideal) Variants.none c none i arg2 harg2 arg3 harg3 arg4 harg4 arg5 harg5 arg6 harg6
      arg7 harg7 arg8 harg8 arg9 harg9 arg10 harg10 hc (harg2.unread x0) (harg3.unread x1) (harg4.unread x2) (harg5.unread x3) k0_t1_loop.trips := by
  unfold kernelRun0_A
  rfl

/-- What case A's run leaves in the output. -/
theorem output_pieces (hc : cond0_0 i) (x4 : Vec Ideal S1x4096x512 .bf16) (x5 : Vec Ideal S1024x512 .f32) (x6 : Vec Ideal S1x6x512 .f32) :
    (kernelRun0_A (F := Ideal) c i arg2 harg2 arg3 harg3 arg4 harg4 arg5 harg5 arg6 harg6 arg7 harg7 arg8 harg8 arg9 harg9 arg10 harg10 hc x0 x1 x2 x3 x4 x5 x6).1
      = [⟨Rect.unit (s := S1024x512) ![0, 0] S1024x512.size inb_S1024x512_S1024x512_0_0, k0_pay2 (F := Ideal)
          (arg10.view.readCov (pb_k0_t1 (F := Ideal) Variants.none c none i arg2 harg2 arg3 harg3 arg4 harg4 arg5 harg5 arg6 harg6
            arg7 harg7 arg8 harg8 arg9 harg9 arg10 harg10 hc (harg2.unread x0) (harg3.unread x1) (harg4.unread x2) (harg5.unread x3) k0_t1_loop.trips)
            (Rect.unit (s := S1024x4096) ![0, 0] S1024x4096.size inb_S1024x4096_S1024x4096_0_0).toLoadRect)
          (View.readAt (Elt Ideal) arg6.view (Rect.unit (s := S1x4096x512) ![0, 0, 0] S1x4096x512.size inb_S1x4096x512_S1x4096x512_0_0_0).toLoadRect (harg6.unread x4))
          (View.readAt (Elt Ideal) arg7.view (Rect.unit (s := S1024x512) ![0, 0] S1024x512.size inb_S1024x512_S1024x512_0_0).toLoadRect (harg7.unread x5))
          (View.readAt (Elt Ideal) arg8.view (Rect.unit (s := S1x6x512) ![0, 2, 0] S1x1x512.size inb_S1x6x512_S1x1x512_0_2_0).toLoadRect (harg8.unread x6))⟩] := by
  unfold kernelRun0_A
  rfl

/-- What case B's run leaves in the output. -/
theorem output_piecesB (hc : ¬cond0_0 i) (x4 : Vec Ideal S1x4096x512 .bf16) (x5 : Vec Ideal S1024x512 .f32) (x6 : Vec Ideal S1x6x512 .f32)
    (w : Vec Ideal S1024x4096 .bf16) :
    (kernelRun0_B (F := Ideal) c i arg2 harg2 arg3 harg3 arg4 harg4 arg5 harg5 arg6 harg6 arg7 harg7 arg8 harg8 arg9 harg9 arg10 harg10 hc x0 x1 x2 x3 x4 x5 x6 w).1
      = [⟨Rect.unit (s := S1024x512) ![0, 0] S1024x512.size inb_S1024x512_S1024x512_0_0, k0_pay2 (F := Ideal)
          (View.readAt (Elt Ideal) arg10.view (Rect.unit (s := S1024x4096) ![0, 0] S1024x4096.size inb_S1024x4096_S1024x4096_0_0).toLoadRect (harg10.unread w))
          (View.readAt (Elt Ideal) arg6.view (Rect.unit (s := S1x4096x512) ![0, 0, 0] S1x4096x512.size inb_S1x4096x512_S1x4096x512_0_0_0).toLoadRect (harg6.unread x4))
          (View.readAt (Elt Ideal) arg7.view (Rect.unit (s := S1024x512) ![0, 0] S1024x512.size inb_S1024x512_S1024x512_0_0).toLoadRect (harg7.unread x5))
          (View.readAt (Elt Ideal) arg8.view (Rect.unit (s := S1x6x512) ![0, 2, 0] S1x1x512.size inb_S1x6x512_S1x1x512_0_2_0).toLoadRect (harg8.unread x6))⟩] := by
  unfold kernelRun0_B
  rfl

/-- What the scratch holds once the loop has run. -/
theorem scratch_canon (hc : cond0_0 i) (x4 : Vec Ideal S1x4096x512 .bf16) (x5 : Vec Ideal S1024x512 .f32) (x6 : Vec Ideal S1x6x512 .f32)
    (y : S1024x4096.Idx) :
    View.canon (kernelRun0_A (F := Ideal) c i arg2 harg2 arg3 harg3 arg4 harg4 arg5 harg5 arg6 harg6 arg7 harg7 arg8 harg8 arg9 harg9 arg10 harg10 hc x0 x1 x2 x3 x4 x5 x6).2.1 y
      = mixed x0 x1 x2 x3 y := by
  refine View.canon_apply_of_pieces (mixed x0 x1 x2 x3) _ ?_ y
    (scover0_A_0 (F := Ideal) c i arg2 harg2 arg3 harg3 arg4 harg4 arg5 harg5 arg6 harg6 arg7 harg7 arg8 harg8 arg9 harg9 arg10 harg10 hc x0 x1 x2 x3 x4 x5 x6 y)
  rw [scratch_pieces]
  exact (pieces_of c i arg2 harg2 arg3 harg3 arg4 harg4 arg5 harg5 arg6 harg6 arg7 harg7 arg8 harg8 arg9 harg9 arg10 harg10 x0 x1 x2 x3 hc _ le_rfl).mem

/-- The scratch after a point that fills it. -/
theorem scratchA (hc : cond0_0 i) (x4 : Vec Ideal S1x4096x512 .bf16) (x5 : Vec Ideal S1024x512 .f32) (x6 : Vec Ideal S1x6x512 .f32) :
    sout0_A_0 (F := Ideal) c i arg2 harg2 arg3 harg3 arg4 harg4 arg5 harg5 arg6 harg6 arg7 harg7 arg8 harg8 arg9 harg9 arg10 harg10 hc x0 x1 x2 x3 x4 x5 x6
      = mixed x0 x1 x2 x3 := by
  funext y
  unfold sout0_A_0
  rw [View.read_writes_junk_eq_canon]
  exact scratch_canon c i arg2 harg2 arg3 harg3 arg4 harg4 arg5 harg5 arg6 harg6 arg7 harg7 arg8 harg8 arg9 harg9 arg10 harg10 x0 x1 x2 x3 hc x4 x5 x6 y

omit x0 x1 x2 x3 in
/-- The kernel's load of row 2. -/
theorem row_two (x6 : Vec Ideal S1x6x512 .f32) (b : Fin 512) :
    View.readAt (Elt Ideal) arg8.view (Rect.unit (s := S1x6x512) ![0, 2, 0] S1x1x512.size inb_S1x6x512_S1x1x512_0_2_0).toLoadRect
      (harg8.unread x6) (ix3 0 0 b) = x6 (ix3 0 2 b) :=
  readBlock_at harg8 x6 _ (ix3 0 0 b) (ix3 0 2 b) (fun a => by fin_cases a <;> simp)

/-- The output block of a point that fills the scratch. -/
theorem outA_at (hc : cond0_0 i) (x4 : Vec Ideal S1x4096x512 .bf16) (x5 : Vec Ideal S1024x512 .f32) (x6 : Vec Ideal S1x6x512 .f32)
    (a : Fin 1024) (b : Fin 512) :
    out0_A_7 (F := Ideal) c i arg2 harg2 arg3 harg3 arg4 harg4 arg5 harg5 arg6 harg6 arg7 harg7 arg8 harg8 arg9 harg9 arg10 harg10 hc x0 x1 x2 x3 x4 x5 x6 (ix2 a b)
      = x5 (ix2 a b) + x6 (ix3 0 2 b) * ∑ k : Fin 4096, mixed x0 x1 x2 x3 (ix2 a k) * x4 (ix3 0 k b) := by
  unfold out0_A_7
  rw [View.read_writes_junk_eq_canon, output_pieces, View.canon_cons_unit_lit' _ _ _ (by decide), tile_at]
  refine congrArg₂ (· + ·) (readBlock_at harg7 x5 _ (ix2 a b) (ix2 a b) (fun a => by fin_cases a <;> simp))
    (congrArg₂ (· * ·) (row_two arg8 harg8 x6 b) (Finset.sum_congr rfl fun k _ => congrArg₂ (· * ·) ?_
      (readBlock_at harg6 x4 _ (ix3 0 k b) (ix3 0 k b) (fun a => by fin_cases a <;> simp))))
  refine (readCov_at arg10.view _ _ (ix2 a k) (ix2 a k) (fun a => by fin_cases a <;> simp)).trans ?_
  rw [← scratch_pieces c i arg2 harg2 arg3 harg3 arg4 harg4 arg5 harg5 arg6 harg6 arg7 harg7 arg8 harg8 arg9 harg9 arg10 harg10 x0 x1 x2 x3 hc x4 x5 x6]
  exact scratch_canon c i arg2 harg2 arg3 harg3 arg4 harg4 arg5 harg5 arg6 harg6 arg7 harg7 arg8 harg8 arg9 harg9 arg10 harg10 x0 x1 x2 x3 hc x4 x5 x6 _

/-- The output block of a point that finds the scratch filled. -/
theorem outB_at (hc : ¬cond0_0 i) (x4 : Vec Ideal S1x4096x512 .bf16) (x5 : Vec Ideal S1024x512 .f32) (x6 : Vec Ideal S1x6x512 .f32)
    (w : Vec Ideal S1024x4096 .bf16) (a : Fin 1024) (b : Fin 512) :
    out0_B_7 (F := Ideal) c i arg2 harg2 arg3 harg3 arg4 harg4 arg5 harg5 arg6 harg6 arg7 harg7 arg8 harg8 arg9 harg9 arg10 harg10 hc x0 x1 x2 x3 x4 x5 x6 w (ix2 a b)
      = x5 (ix2 a b) + x6 (ix3 0 2 b) * ∑ k : Fin 4096, w (ix2 a k) * x4 (ix3 0 k b) := by
  unfold out0_B_7
  rw [View.read_writes_junk_eq_canon, output_piecesB, View.canon_cons_unit_lit' _ _ _ (by decide), tile_at]
  exact congrArg₂ (· + ·) (readBlock_at harg7 x5 _ (ix2 a b) (ix2 a b) (fun a => by fin_cases a <;> simp))
    (congrArg₂ (· * ·) (row_two arg8 harg8 x6 b) (Finset.sum_congr rfl fun k _ => congrArg₂ (· * ·)
      (readBlock_at harg10 w _ (ix2 a k) (ix2 a k) (fun a => by fin_cases a <;> simp))
      (readBlock_at harg6 x4 _ (ix3 0 k b) (ix3 0 k b) (fun a => by fin_cases a <;> simp))))

end Trip

end Cert.OutIdeal.Output

end
-- ==== Proof.Output.Out.lean ====
/-
  THE OUTPUT PROJECTION: the residual stream plus the gate times the two normalised head groups, side by side, through
  `w_out` of the last layer. What the kernel's array ends holding, and that the reference holds the same.
-/
module

public import proofs.«01_k».proof.Proof.Output.Mixed
public import proofs.«01_k».proof.Proof.Gen.OutRefIdeal.Read

@[expose] public section

set_option maxRecDepth 16384

noncomputable section

namespace Cert.OutIdeal.Output

open Idealize.ShloMosaic Idealize.ShloMosaic.TcCoe Idealize.SL.Sem
open Cert.OutIdeal Cert.OutIdeal.Gen

/-- A head group's mixed sequences, at (token, feature). -/
abbrev Heads : Type := (⟨2, ![16384, 2048]⟩ : Shape).Idx → EReal

/-- A head group's gain. -/
abbrev Gain : Type := (⟨1, ![2048]⟩ : Shape).Idx → EReal

/-- The stacked weight, at (layer, feature, channel). -/
abbrev Weight : Type := (⟨3, ![2, 4096, 4096]⟩ : Shape).Idx → EReal

/-- The residual stream, at (token, channel). -/
abbrev Stream : Type := (⟨2, ![16384, 4096]⟩ : Shape).Idx → EReal

/-- The modulation, at (sequence, row, channel). -/
abbrev Modulation : Type := (⟨3, ![16, 6, 4096]⟩ : Shape).Idx → EReal

/-- Token `r`'s normalised head groups, side by side. -/
def features (A B : Heads) (g h : Gain) (r : Fin 16384) (k : Fin 4096) : EReal :=
  mixedRow (fun k => A (ix2 r k)) (fun k => B (ix2 r k)) (fun k => g (ix1 k)) (fun k => h (ix1 k)) k

/-- Token `r`'s channel `d` after the projection: sequence `r / 2048`'s gate is row 2 of its modulation. -/
def channel (A B : Heads) (g h : Gain) (W : Weight) (X : Stream) (M : Modulation) (r : Fin 16384) (d : Fin 4096) : EReal :=
  X (ix2 r d) + M (ix3 ⟨r.val / 2048, by omega⟩ 2 d) * ∑ k : Fin 4096, features A B g h r k * W (ix3 1 k d)

/-- The stream after the projection, as an array. -/
def result (A B : Heads) (g h : Gain) (W : Weight) (X : Stream) (M : Modulation) (y : (⟨2, ![16384, 4096]⟩ : Shape).Idx) : EReal :=
  channel A B g h W X M (y 0) (y 1)

theorem result_ix2 (A B : Heads) (g h : Gain) (W : Weight) (X : Stream) (M : Modulation) (r : Fin 16384) (d : Fin 4096) :
    result A B g h W X M (ix2 r d) = channel A B g h W X M r d := rfl

variable (m : (ℓ : Loc nD τ sig) → Buf (Elt Ideal) ℓ) (c : Dev nD)

/-- The block index of each window at a grid point: row block `t / 8`, channel block `t % 8`, sequence `t / 16`. -/
theorem idx : ∀ t : Fin cfg0.N, win0_0.index t = ![t.val / 8, 0] ∧ win0_1.index t = ![t.val / 8, 0]
    ∧ win0_2.index t = ![0, 0] ∧ win0_3.index t = ![0, 0] ∧ win0_4.index t = ![1, 0, t.val % 8]
    ∧ win0_5.index t = ![t.val / 8, t.val % 8] ∧ win0_6.index t = ![t.val / 16, 0, t.val % 8]
    ∧ win0_7.index t = ![t.val / 8, t.val % 8] :=
  (by decide +kernel : ∀ t : Fin grid0.N, _)

/-- A point's first head group is the array's. -/
theorem first_block (t : Fin cfg0.N) (ht : t.val < 128) (a : Fin 1024) (k : Fin 2048) :
    iblk m c 0 t (ix2 a k) = m ((c : Thread nD τ).loc main_arg0) (ix2 ⟨t.val / 8 * 1024 + a.val, by omega⟩ k) := by
  blk_ext [iblk, V, (idx t).1]

/-- A point's second head group is the array's. -/
theorem second_block (t : Fin cfg0.N) (ht : t.val < 128) (a : Fin 1024) (k : Fin 2048) :
    iblk m c 1 t (ix2 a k) = m ((c : Thread nD τ).loc main_arg1) (ix2 ⟨t.val / 8 * 1024 + a.val, by omega⟩ k) := by
  blk_ext [iblk, V, (idx t).2.1]

/-- The first gain, as the host lays it out. -/
theorem first_gain (t : Fin cfg0.N) (k : Fin 2048) :
    iblk m c 2 t (ix2 0 k) = m ((c : Thread nD τ).loc main_arg2) (ix1 k) := by
  blk_point [iblk, V, (idx t).2.2.1]

/-- The second gain, as the host lays it out. -/
theorem second_gain (t : Fin cfg0.N) (k : Fin 2048) :
    iblk m c 3 t (ix2 0 k) = m ((c : Thread nD τ).loc main_arg3) (ix1 k) := by
  blk_point [iblk, V, (idx t).2.2.2.1]

/-- A point's weights are the last layer's, as the host's cast leaves them. -/
theorem weight_block (t : Fin cfg0.N) (b : Fin 512) (k : Fin 4096) :
    iblk m c 4 t (ix3 0 k b) = m ((c : Thread nD τ).loc main_arg4) (ix3 1 k ⟨t.val % 8 * 512 + b.val, by omega⟩) := by
  blk_ext [iblk, (idx t).2.2.2.2.1]

/-- A point's stream is the array's. -/
theorem stream_block (t : Fin cfg0.N) (ht : t.val < 128) (a : Fin 1024) (b : Fin 512) :
    iblk m c 5 t (ix2 a b) = m ((c : Thread nD τ).loc main_arg5)
      (ix2 ⟨t.val / 8 * 1024 + a.val, by omega⟩ ⟨t.val % 8 * 512 + b.val, by omega⟩) := by
  blk_ext [iblk, V, (idx t).2.2.2.2.2.1]

/-- A point's gate is row 2 of its sequence's modulation. -/
theorem gate_block (t : Fin cfg0.N) (ht : t.val < 128) (b : Fin 512) :
    iblk m c 6 t (ix3 0 2 b) = m ((c : Thread nD τ).loc main_arg6)
      (ix3 ⟨t.val / 16, by omega⟩ 2 ⟨t.val % 8 * 512 + b.val, by omega⟩) := by
  blk_ext [iblk, V, (idx t).2.2.2.2.2.2.1]

/-- The features of block row `a` of row block `q`. -/
def rowFeatures (q : ℕ) (hq : q < 16) (a : Fin 1024) (k : Fin 4096) : EReal :=
  features (m ((c : Thread nD τ).loc main_arg0)) (m ((c : Thread nD τ).loc main_arg1)) (m ((c : Thread nD τ).loc main_arg2))
    (m ((c : Thread nD τ).loc main_arg3)) ⟨q * 1024 + a.val, by omega⟩ k

/-- A point's blocks normalised are the features of its row block. -/
theorem mixed_block (t : Fin cfg0.N) (ht : t.val < 128) (a : Fin 1024) (k : Fin 4096) :
    mixed (iblk m c 0 t) (iblk m c 1 t) (iblk m c 2 t) (iblk m c 3 t) (ix2 a k) = rowFeatures m c (t.val / 8) (by omega) a k := by
  show mixedRow (fun k => iblk m c 0 t (ix2 a k)) (fun k => iblk m c 1 t (ix2 a k)) (fun k => iblk m c 2 t (ix2 0 k))
    (fun k => iblk m c 3 t (ix2 0 k)) k = _
  simp only [first_block m c t ht, second_block m c t ht, first_gain m c t, second_gain m c t]
  rfl

/-- The scratch holds the features of the point's row block, whichever case ran at it. -/
theorem scratch_at (n : ℕ) (hn : n < cfg0.N) (hn' : n < 128) (a : Fin 1024) (k : Fin 4096) :
    (outsAt0 m c n hn).2 (ix2 a k) = rowFeatures m c (n / 8) (by omega) a k := by
  induction n with
  | zero =>
    rw [outsAt0_A m c ⟨0, hn⟩ rfl]
    dsimp only
    rw [scratchA]
    exact mixed_block m c ⟨0, hn⟩ hn' a k
  | succ n ih =>
    by_cases h0 : (n + 1) % 8 = 0
    · rw [outsAt0_A m c ⟨n + 1, hn⟩ h0]
      dsimp only
      rw [scratchA]
      exact mixed_block m c ⟨n + 1, hn⟩ hn' a k
    · rw [outsAt0_B m c ⟨n + 1, hn⟩ h0]
      refine (ih (Nat.lt_of_succ_lt hn) (by omega)).trans ?_
      have e : n / 8 = (n + 1) / 8 := by omega
      simp only [e]

/-- A residual plus its gate times a row's product with a column. -/
def gated (x g : EReal) (f w : Fin 4096 → EReal) : EReal := x + g * ∑ k, f k * w k

/-- The kernel's result. -/
def whole : (⟨2, ![16384, 4096]⟩ : Shape).Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The result at row `a` of row block `t / 8` and channel `b` of channel block `t % 8`. -/
theorem whole_ix2 (t : Fin cfg0.N) (ht : t.val < 128) (a : Fin 1024) (b : Fin 512) :
    whole m c (ix2 ⟨t.val / 8 * 1024 + a.val, by omega⟩ ⟨t.val % 8 * 512 + b.val, by omega⟩)
      = gated (m ((c : Thread nD τ).loc main_arg5) (ix2 ⟨t.val / 8 * 1024 + a.val, by omega⟩ ⟨t.val % 8 * 512 + b.val, by omega⟩))
          (m ((c : Thread nD τ).loc main_arg6) (ix3 ⟨t.val / 16, by omega⟩ 2 ⟨t.val % 8 * 512 + b.val, by omega⟩))
          (rowFeatures m c (t.val / 8) (by omega) a)
          (fun k => m ((c : Thread nD τ).loc main_arg4) (ix3 1 k ⟨t.val % 8 * 512 + b.val, by omega⟩)) := by
  unfold whole
  rw [result_ix2, channel]
  have e : (⟨(t.val / 8 * 1024 + a.val) / 2048, by omega⟩ : Fin 16) = ⟨t.val / 16, by omega⟩ := Fin.ext (by simp only; omega)
  rw [e]
  rfl

/-- A point's output block, at an index. -/
theorem block_at (t : Fin cfg0.N) (ht : t.val < 128) (a : Fin 1024) (b : Fin 512) :
    (outsAt0 m c t.val t.isLt).1 (ix2 a b)
      = whole m c (ix2 ⟨t.val / 8 * 1024 + a.val, by omega⟩ ⟨t.val % 8 * 512 + b.val, by omega⟩) := by
  rw [whole_ix2 m c t ht]
  by_cases h0 : t.val % 8 = 0
  · rw [outsAt0_A m c t h0]
    dsimp only
    rw [outA_at, stream_block m c t ht, gate_block m c t ht]
    simp only [mixed_block m c t ht, weight_block m c t]
    rfl
  · rw [outsAt0_B m c t h0]
    dsimp only
    rw [outB_at, stream_block m c t ht, gate_block m c t ht]
    have e : (t.val - 1) / 8 = t.val / 8 := by omega
    simp only [scratch_at m c (t.val - 1) (by omega) (by omega), e, weight_block m c t]
    rfl

/-- THE KERNEL'S RESULT. -/
theorem final : (dats m 0 c).arrAt 7 cfg0.N = whole m c := by
  refine (dats m 0 c).arrAt_eq_of_covers 7 _ (by decide +kernel) fun t _ y => ?_
  have ht : t.val < 128 := lt_of_lt_of_eq t.isLt N_0
  blk_simp
  rw [after0_7]
  idx_vars y
  rw [block_at m c t ht]
  blk_ext [(idx t).2.2.2.2.2.2.2]

section Reference

open Cert.OutRefIdeal.Read

/-- The reference's normalised head groups, side by side. -/
theorem features_ref (A B : Heads) (g h : Gain) (s : Fin 8) (r : Fin 2048) (k : Fin 4096) :
    val_main_v34 (F := Ideal) A B g h (ix3 s r k) = features A B g h ⟨s.val * 2048 + r.val, by omega⟩ k := by
  unfold features mixedRow scale
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_cst, val_main_cst_0, val_main_cst_1,
    val_main_cst_2, val_main_cst_3, val_main_cst_4]

/-- THE REFERENCE'S RESULT. -/
theorem reference_eq (A B : Heads) (g h : Gain) (W : Weight) (X : Stream) (M : Modulation) :
    val_main_v41 (F := Ideal) A B g h W X M = result A B g h W X M := by
  funext y
  idx_vars y
  rw [result_ix2]
  unfold channel
  pointwise [val_main_v41, val_main_v40, val_main_v39, val_main_v38, val_main_v37, val_main_v36, val_main_v35, val_main_v3,
    val_main_v2, val_main_v1, val_main_v0]
  simp only [features_ref]
  have e : (⟨y0.val / 2048 * 2048 + y0.val % 2048, by omega⟩ : Fin 16384) = y0 := Fin.ext (by simp only; omega)
  rw [e]

end Reference

end Cert.OutIdeal.Output

end
-- ==== Proof.Norm.Modulated.lean ====
/-
  THE NORM AHEAD OF A LAYER'S PROJECTION: each token's residual stream scaled to root mean square one and by the channel's
  gain, then scaled and shifted by the token's sequence's modulation rows. What a tile of the kernel computes, what its
  array ends holding, and that the reference holds the same.
-/
module

public import proofs.«01_k».proof.Proof.Gen.ModIdeal.Value
public import proofs.«01_k».proof.Proof.Gen.ModRefIdeal.Read
public import Idealize.ShloMosaic.Lib.Pipeline.ValueKit
public import Idealize.ShloMosaic.Lib.Pointwise

@[expose] public section

set_option maxRecDepth 16384

noncomputable section

namespace Cert.ModIdeal.Norm

open Idealize.ShloMosaic Idealize.ShloMosaic.TcCoe Idealize.SL.Sem
open Cert.ModIdeal Cert.ModIdeal.Gen

/-- The residual stream, at (token, channel). -/
abbrev Stream : Type := (⟨2, ![16384, 4096]⟩ : Shape).Idx → EReal

/-- The gain, at a channel. -/
abbrev Gain : Type := (⟨1, ![4096]⟩ : Shape).Idx → EReal

/-- The modulation, at (sequence, row, channel). -/
abbrev Modulation : Type := (⟨3, ![16, 6, 4096]⟩ : Shape).Idx → EReal

/-- The reciprocal root mean square of `4096` values. -/
def scale (v : Fin 4096 → EReal) : EReal :=
  Ideal.rsqrt (Ideal.div (∑ k, v k * v k) (Ideal.ofBits .f32 0x45800000#32) + Ideal.ofBits .f32 0x358637BD#32)

/-- The sequence a token belongs to. -/
def seqOf (r : Fin 16384) : Fin 16 := ⟨r.val / 2048, by omega⟩

/-- A normed value `x` under gain `g`, modulation scale `s` and shift `h`. -/
def modulated (x n g s h : EReal) : EReal := x * n * g * (1 + s) + h

/-- The normed and modulated stream, as an array. -/
def result (X : Stream) (g : Gain) (M : Modulation) (y : (⟨2, ![16384, 4096]⟩ : Shape).Idx) : EReal :=
  modulated (X (ix2 (y 0) (y 1))) (scale fun k => X (ix2 (y 0) k)) (g (ix1 (y 1))) (M (ix3 (seqOf (y 0)) 1 (y 1)))
    (M (ix3 (seqOf (y 0)) 0 (y 1)))

theorem result_ix2 (X : Stream) (g : Gain) (M : Modulation) (r : Fin 16384) (d : Fin 4096) :
    result X g M (ix2 r d) = modulated (X (ix2 r d)) (scale fun k => X (ix2 r k)) (g (ix1 d)) (M (ix3 (seqOf r) 1 d))
      (M (ix3 (seqOf r) 0 d)) := rfl

variable (m : (ℓ : Loc nD τ sig) → Buf (Elt Ideal) ℓ) (c : Dev nD)

/-- The block index of each window at a grid point: four row blocks to a sequence. -/
theorem idx : ∀ t : Fin cfg0.N, win0_0.index t = ![t.val, 0] ∧ win0_1.index t = ![0, 0]
    ∧ win0_2.index t = ![t.val / 4, 0, 0] ∧ win0_3.index t = ![t.val, 0] :=
  (by decide +kernel : ∀ t : Fin grid0.N, _)

/-- What a grid point stores, at an index of its block. -/
theorem tile_at (x0 : FVec Ideal S512x4096 .f32) (x1 : FVec Ideal S1x4096 .f32) (s h : FVec Ideal S1x1x4096 .f32)
    (a : Fin 512) (b : Fin 4096) :
    k0_pay1 (F := Ideal) x0 x1 s h (ix2 a b) = modulated (x0 (ix2 a b)) (scale fun k => x0 (ix2 a k)) (x1 (ix2 0 b))
      (s (ix3 0 0 b)) (h (ix3 0 0 b)) := by
  unfold modulated scale
  pointwise [k0_pay1]

/-- The scale's row of a modulation block, as the kernel loads it. -/
theorem scale_row (x : Vec Ideal S1x6x4096 .f32) (b : Fin 4096) :
    View.ld x r0_2 (ix3 0 0 b) = x (ix3 0 1 b) := by
  show x (r0_2.idx (ix3 0 0 b)) = _
  refine congrArg x (funext fun a => Fin.ext ?_)
  match a with
  | ⟨0, _⟩ => rfl
  | ⟨1, _⟩ => rfl
  | ⟨2, _⟩ => show 0 + 1 * b.val = b.val; omega

/-- The shift's row of a modulation block, as the kernel loads it. -/
theorem shift_row (x : Vec Ideal S1x6x4096 .f32) (b : Fin 4096) :
    View.ld x r0_3 (ix3 0 0 b) = x (ix3 0 0 b) := by
  show x (r0_3.idx (ix3 0 0 b)) = _
  refine congrArg x (funext fun a => Fin.ext ?_)
  match a with
  | ⟨0, _⟩ => rfl
  | ⟨1, _⟩ => rfl
  | ⟨2, _⟩ => show 0 + 1 * b.val = b.val; omega

/-- THE KERNEL'S RESULT. -/
theorem final : (dats m 0 c).arrAt 3 cfg0.N = result (m ((c : Thread nD τ).loc main_arg0))
    (m ((c : Thread nD τ).loc main_arg1)) (m ((c : Thread nD τ).loc main_arg2)) := by
  refine (dats m 0 c).arrAt_eq_of_covers 3 _ (by decide +kernel) fun t _ y => ?_
  have ht : t.val < 32 := lt_of_lt_of_eq t.isLt N_0
  blk_simp
  rw [after0_3]
  frame_out
  idx_vars y
  obtain ⟨h0, h1, h2, h3⟩ := idx t
  have hr (k : Fin 4096) : iblk m c 0 t (ix2 y0 k)
      = m ((c : Thread nD τ).loc main_arg0) (ix2 ⟨t.val * 512 + y0.val, by omega⟩ k) := by
    blk_point [iblk, V, h0]
  have hg : iblk m c 1 t (ix2 0 y1) = m ((c : Thread nD τ).loc main_arg1) (ix1 y1) := by
    blk_point [iblk, V, h1]
  have hm (q : Fin 6) : iblk m c 2 t (ix3 0 q y1)
      = m ((c : Thread nD τ).loc main_arg2) (ix3 (seqOf ⟨t.val * 512 + y0.val, by omega⟩) q y1) := by
    have hs : seqOf ⟨t.val * 512 + y0.val, by omega⟩ = ⟨t.val / 4, by omega⟩ :=
      Fin.ext (by show (t.val * 512 + y0.val) / 2048 = t.val / 4; omega)
    rw [hs]
    blk_point [iblk, V, h2]
  rw [tile_at, scale_row, shift_row]
  simp only [hr, hg, hm]
  rw [← result_ix2]
  blk_ext [h3]

open Cert.ModRefIdeal.Read in
/-- THE REFERENCE'S RESULT. -/
theorem reference_eq (X : Stream) (g : Gain) (M : Modulation) : val_main_v27 (F := Ideal) X g M = result X g M := by
  funext y
  idx_vars y
  rw [result_ix2]
  unfold modulated scale seqOf
  pointwise [val_main_v27, val_main_v26, val_main_v25, val_main_v24, val_main_v23, val_main_v22, val_main_v21,
    val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, val_main_cst_2]

end Cert.ModIdeal.Norm

end
-- ==== Proof.Modulation.Ada.lean ====
/-
  THE MODULATION'S CALL: `silu (c) · w + b` for each layer's weight and bias. What a tile of the kernel computes, what its
  array ends holding, and that the reference holds the same.
-/
module

public import proofs.«01_k».proof.Proof.Gen.AdaIdeal.Value
public import proofs.«01_k».proof.Proof.Gen.AdaRefIdeal.Read
public import proofs.«01_k».proof.Proof.FeedForward.Up

@[expose] public section

set_option maxRecDepth 16384

noncomputable section

namespace Cert.AdaIdeal.Modulation

open Idealize.ShloMosaic Idealize.ShloMosaic.TcCoe Idealize.SL.Sem
open Cert.AdaIdeal Cert.AdaIdeal.Gen
open Cert.UpIdeal.FeedForward (silu mul_div_one one_add_exp_ne_zero)

/-- The conditioning vectors, at (vector, channel). -/
abbrev Condition : Type := (⟨2, ![16, 4096]⟩ : Shape).Idx → EReal

/-- The weights, at (layer, channel, feature). -/
abbrev Weight : Type := (⟨3, ![2, 4096, 24576]⟩ : Shape).Idx → EReal

/-- The biases, at (layer, feature). -/
abbrev Bias : Type := (⟨2, ![2, 24576]⟩ : Shape).Idx → EReal

/-- The modulation of one vector, at one feature of one layer. -/
def value (C : Condition) (W : Weight) (B : Bias) (l : Fin 2) (s : Fin 16) (f : Fin 24576) : EReal :=
  (∑ k : Fin 4096, silu (C (ix2 s k)) * W (ix3 l k f)) + B (ix2 l f)

/-- The modulation, as an array. -/
def result (C : Condition) (W : Weight) (B : Bias) (y : (⟨3, ![2, 16, 24576]⟩ : Shape).Idx) : EReal :=
  value C W B (y 0) (y 1) (y 2)

theorem result_ix3 (C : Condition) (W : Weight) (B : Bias) (l : Fin 2) (s : Fin 16) (f : Fin 24576) :
    result C W B (ix3 l s f) = value C W B l s f := rfl

/-- `silu` as the product with the logistic function. -/
theorem silu_eq (x : EReal) : silu x = x * Ideal.div 1 (1 + Ideal.exp (-x)) :=
  (mul_div_one x (one_add_exp_ne_zero _)).symm

variable (m : (ℓ : Loc nD τ sig) → Buf (Elt Ideal) ℓ) (c : Dev nD)

/-- The block index of each window at a grid point: layer `t / 48`, feature block `t % 48`. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- What a grid point stores, at an index of its block. -/
theorem tile_at (x0 : FVec Ideal S16x4096 .f32) (x1 : FVec Ideal S1x4096x512 .f32) (x2 : FVec Ideal S1x1x512 .f32)
    (a : Fin 16) (b : Fin 512) :
    k0_pay1 (F := Ideal) x0 x1 x2 (ix3 0 a b)
      = (∑ k : Fin 4096, silu (x0 (ix2 a k)) * x1 (ix3 0 k b)) + x2 (ix3 0 0 b) := by
  unfold silu
  pointwise [k0_pay1]
  simp only [zero_sub]

/-- THE KERNEL'S RESULT. -/
theorem final : (dats m 0 c).arrAt 3 cfg0.N = result (m ((c : Thread nD τ).loc main_arg0))
    (m ((c : Thread nD τ).loc main_arg1)) (m ((c : Thread nD τ).loc main_arg2)) := by
  refine (dats m 0 c).arrAt_eq_of_covers 3 _ (by decide +kernel) fun t _ y => ?_
  have ht : t.val < 96 := lt_of_lt_of_eq t.isLt N_0
  blk_simp
  rw [after0_3]
  frame_out
  idx_vars y
  obtain ⟨h0, h1, h2, h3⟩ := idx t
  have hc (k : Fin 4096) : iblk m c 0 t (ix2 y1 k) = m ((c : Thread nD τ).loc main_arg0) (ix2 y1 k) := by
    blk_point [iblk, V, h0]
  have hw (k : Fin 4096) : iblk m c 1 t (ix3 0 k y2)
      = m ((c : Thread nD τ).loc main_arg1) (ix3 ⟨t.val / 48, by omega⟩ k ⟨t.val % 48 * 512 + y2.val, by omega⟩) := by
    blk_point [iblk, V, h1]
  have hb : iblk m c 2 t (ix3 0 0 y2)
      = m ((c : Thread nD τ).loc main_arg2) (ix2 ⟨t.val / 48, by omega⟩ ⟨t.val % 48 * 512 + y2.val, by omega⟩) := by
    blk_point [iblk, V, h2]
  have hy : y0 = 0 := Subsingleton.elim _ _
  subst hy
  rw [tile_at]
  simp only [hc, hw, hb]
  refine Eq.trans (b := result _ _ _ (ix3 ⟨t.val / 48, by omega⟩ y1 ⟨t.val % 48 * 512 + y2.val, by omega⟩)) rfl ?_
  blk_ext [h3]

open Cert.AdaRefIdeal.Read in
/-- THE REFERENCE'S RESULT. -/
theorem reference_eq (C : Condition) (W : Weight) (B : Bias) : val_main_v20 (F := Ideal) C W B = result C W B := by
  funext y
  idx_vars y
  rw [result_ix3]
  unfold value
  simp only [silu_eq]
  match y0 with
  | ⟨0, _⟩ =>
    pointwise [val_main_v20, val_main_v18, val_main_v8, val_main_v7, val_main_v6, val_main_v5, val_main_v4, val_main_v3,
      val_main_v2, val_main_v1, val_main_v0, val_main_call0_v0, val_main_call0_v1, val_main_call0_v2, val_main_call0_v3,
      val_main_call0_v4, val_main_call0_v5, val_main_call0_cst, val_main_call0_cst_0]
  | ⟨1, _⟩ =>
    pointwise [val_main_v20, val_main_v19, val_main_v17, val_main_v16, val_main_v15, val_main_v14, val_main_v13,
      val_main_v12, val_main_v11, val_main_v10, val_main_v9, val_main_call1_v0, val_main_call1_v1, val_main_call1_v2,
      val_main_call1_v3, val_main_call1_v4, val_main_call1_v5, val_main_call1_cst, val_main_call1_cst_0]

end Cert.AdaIdeal.Modulation

end
-- ==== Proof.Input.Heads.lean ====
/-
  THE INPUT PROJECTION'S HEADS: a head of a token's projection normalised, turned by the token's position, and for a query
  scaled. What each store of the kernel's body holds.
-/
module

public import proofs.«01_k».proof.Proof.Gen.InIdeal.Value
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.Claim

@[expose] public section

set_option maxRecDepth 16384

noncomputable section

namespace Cert.InIdeal.Input

open Idealize.ShloMosaic Idealize.ShloMosaic.TcCoe Idealize.SL.Sem
open Cert.InIdeal Cert.InIdeal.Gen

/-- The reciprocal root mean square of `128` values. -/
def scale (v : Fin 128 → EReal) : EReal :=
  Ideal.rsqrt (Ideal.div (∑ k, v k * v k) (Ideal.ofBits .f32 0x43000000#32) + Ideal.ofBits .f32 0x358637BD#32)

/-- The factor on the queries: the scale of the scores times the logarithm of `e` to the base two. -/
def queryScale : EReal := (((Real.sqrt 128)⁻¹ * (Real.log 2)⁻¹ : ℝ) : EReal)

/-- The kernel's constant of that name is it. -/
theorem named_scale : Named.named (F := Ideal) Cert.InIdeal.κ "query_scale" (φ := .f32) 0x3E0293EE#32 = queryScale :=
  IdealRules.named_const.ideal_named_scalar _ _ _ _ rfl

/-- A head normalised, under the gain. -/
def normed (v g : Fin 128 → EReal) (d : Fin 128) : EReal := v d * scale v * g d

/-- The value each lane is turned with: the one `32` lanes away in the lane's half. -/
def opposite (n : Fin 128 → EReal) (d : Fin 128) : EReal :=
  if d.val % 64 < 32 then n ⟨(d.val + 128 - 96) % 128, Nat.mod_lt _ (by decide)⟩
  else n ⟨(d.val + 128 - 32) % 128, Nat.mod_lt _ (by decide)⟩

/-- A head turned by a row of the cosines and a row of the signed sines. -/
def turned (n c s : Fin 128 → EReal) (d : Fin 128) : EReal := n d * c d + opposite n d * s d

/-- The kernel's test of a lane. -/
theorem lane_test : ∀ d : Fin 128, IntOp.cmpi CmpIPredicate.eq (IntOp.andi (BitVec.ofNat 32 d.val) 32#32) 0#32
    = if d.val % 64 < 32 then 1#1 else 0#1 := by
  decide +kernel

/-- The kernel's choice between its two rotations. -/
theorem select_lane (d : Fin 128) (x y : EReal) :
    Scalar.select (IntOp.cmpi CmpIPredicate.eq (IntOp.andi (BitVec.ofNat 32 d.val) 32#32) 0#32) x y
      = if d.val % 64 < 32 then x else y := by
  rw [lane_test]
  split <;> rfl

variable (v3 : FVec Ideal S1024x512 .f32) (g : FVec Ideal S1x128 .f32) (c s : FVec Ideal S1024x128 .f32)

/-- The head at lane `o` of a tile's row, turned. -/
def head (o : ℕ) (ho : o + 128 ≤ 512) (a : Fin 1024) (b : Fin 128) : EReal :=
  turned (normed (fun k => v3 (ix2 a ⟨o + k.val, by omega⟩)) fun k => g (ix2 0 k)) (fun k => c (ix2 a k))
    (fun k => s (ix2 a k)) b

/-- The first of a tile's four queries. -/
theorem query_0 (a : Fin 1024) (b : Fin 128) :
    k0_pay5 (F := Ideal) v3 g c s (ix2 a b)
      = head v3 g c s 0 (by decide) a b * queryScale := by
  unfold head turned opposite normed scale
  pointwise [k0_pay5]
  simp only [select_lane, named_scale]

/-- The second. -/
theorem query_1 (a : Fin 1024) (b : Fin 128) :
    k0_pay9 (F := Ideal) (k0_pay6 (F := Ideal) v3) (k0_pay7 (F := Ideal) g) (k0_pay8 (F := Ideal) c) s (ix2 a b)
      = head v3 g c s 128 (by decide) a b * queryScale := by
  unfold head turned opposite normed scale
  pointwise [k0_pay9, k0_pay8, k0_pay7, k0_pay6]
  simp only [select_lane, named_scale]

/-- The third. -/
theorem query_2 (a : Fin 1024) (b : Fin 128) :
    k0_pay15 (F := Ideal) (k0_pay10 (F := Ideal) v3) (k0_pay11 (F := Ideal) g) (k0_pay12 (F := Ideal) c) (k0_pay13 (F := Ideal) s) (k0_pay14 (F := Ideal) v3)
      (Scalar.ofBits (F := Ideal) .f32 0x43000000#32) (ix2 a b)
      = head v3 g c s 256 (by decide) a b * queryScale := by
  unfold head turned opposite normed scale
  pointwise [k0_pay15, k0_pay14, k0_pay13, k0_pay12, k0_pay11, k0_pay10]
  simp only [select_lane, named_scale]

/-- The fourth. -/
theorem query_3 (a : Fin 1024) (b : Fin 128) :
    k0_pay2 (F := Ideal) (k0_pay16 (F := Ideal) c) (k0_pay17 (F := Ideal) s) (k0_pay18 (F := Ideal) v3) (k0_pay19 (F := Ideal) g) (ix2 a b)
      = head v3 g c s 384 (by decide) a b * queryScale := by
  unfold head turned opposite normed scale
  pointwise [k0_pay2, k0_pay19, k0_pay18, k0_pay17, k0_pay16]
  simp only [select_lane, named_scale]

/-- The first of a tile's four keys. -/
theorem key_0 (a : Fin 1024) (b : Fin 128) :
    k0_pay20 (F := Ideal) v3 g c s (ix2 a b)
      = head v3 g c s 0 (by decide) a b := by
  unfold head turned opposite normed scale
  pointwise [k0_pay20]
  simp only [select_lane]

/-- The second. -/
theorem key_1 (a : Fin 1024) (b : Fin 128) :
    k0_pay24 (F := Ideal) (k0_pay21 (F := Ideal) v3) (k0_pay22 (F := Ideal) g) (k0_pay23 (F := Ideal) c) s (ix2 a b)
      = head v3 g c s 128 (by decide) a b := by
  unfold head turned opposite normed scale
  pointwise [k0_pay24, k0_pay23, k0_pay22, k0_pay21]
  simp only [select_lane]

/-- The third. -/
theorem key_2 (a : Fin 1024) (b : Fin 128) :
    k0_pay30 (F := Ideal) (k0_pay25 (F := Ideal) v3) (k0_pay26 (F := Ideal) g) (k0_pay27 (F := Ideal) c) (k0_pay28 (F := Ideal) s) (k0_pay29 (F := Ideal) v3) (ix2 a b)
      = head v3 g c s 256 (by decide) a b := by
  unfold head turned opposite normed scale
  pointwise [k0_pay30, k0_pay29, k0_pay28, k0_pay27, k0_pay26, k0_pay25]
  simp only [select_lane]

/-- The fourth. -/
theorem key_3 (a : Fin 1024) (b : Fin 128) :
    k0_pay3 (F := Ideal) (k0_pay31 (F := Ideal) c) (k0_pay32 (F := Ideal) s) (k0_pay33 (F := Ideal) v3 g) k0_pay34 96#32 (ix2 a b)
      = head v3 g c s 384 (by decide) a b := by
  unfold head turned opposite normed scale
  pointwise [k0_pay3, k0_pay34, k0_pay33, k0_pay32, k0_pay31]
  simp only [select_lane]

omit v3 g c s in
/-- A tile's product. -/
theorem product_at (x : FVec Ideal S1024x4096 .bf16) (w : FVec Ideal S1x4096x512 .bf16) (a : Fin 1024) (b : Fin 512) :
    k0_pay1 (F := Ideal) x w (ix2 a b) = ∑ k : Fin 4096, x (ix2 a k) * w (ix3 0 k b) := by
  pointwise [k0_pay1]

omit v3 g c s in
/-- What a plain tile stores. -/
theorem plain_at (x : FVec Ideal S1024x4096 .bf16) (w : FVec Ideal S1x4096x512 .bf16) (a : Fin 1024) (b : Fin 512) :
    k0_pay4 (F := Ideal) x w (ix2 a b) = ∑ k : Fin 4096, x (ix2 a k) * w (ix3 0 k b) := by
  pointwise [k0_pay4, k0_pay1]

end Cert.InIdeal.Input

end
-- ==== Proof.Input.Tile.lean ====
/-
  THE INPUT PROJECTION'S TILES: what each of the body's three cases leaves in its block of the output.
-/
module

public import proofs.«01_k».proof.Proof.Input.Heads

@[expose] public section

set_option maxRecDepth 16384

noncomputable section

namespace Cert.InIdeal.Input

open Idealize.ShloMosaic Idealize.ShloMosaic.TcCoe Idealize.SL.Sem
open Cert.InIdeal Cert.InIdeal.Gen

/-- A load through a unit rectangle of a staged block reads the block at the placed index. -/
theorem readBlock_at {Val : EltTy → Type} {κ : Kind} {sp : Space} {s : Shape} {e : EltTy} {m : Memref sig κ sp s e}
    (h : m.IsWhole) (X : s.Idx → Val e) {off size : Fin s.rank → Nat} (inb)
    (y : (Rect.unit off size inb).shape.Idx) (i : s.Idx) (hi : ∀ a, (i a : Nat) = off a + y a) :
    m.view.readAt Val (Rect.unit off size inb).toLoadRect (h.unread X) y = X i := by
  rw [h.readAt_unread]
  exact congrArg X (funext fun a => Fin.ext ((Rect.idx_unit_val off size inb y a).trans (hi a).symm))

/-- A load of a whole staged block reads the block. -/
theorem readWhole {Val : EltTy → Type} {κ : Kind} {sp : Space} {s : Shape} {e : EltTy} {m : Memref sig κ sp s e}
    (h : m.IsWhole) (X : s.Idx → Val e) {off : Fin s.rank → Nat} (inb) (h0 : ∀ a, off a = 0) :
    m.view.readAt Val (Rect.unit off s.size inb).toLoadRect (h.unread X) = X :=
  funext fun y => readBlock_at h X inb y y fun a => by rw [h0 a]; exact (Nat.zero_add _).symm

/-- A tile's heads, normalised and turned. -/
def heads (v3 : FVec Ideal S1024x512 .f32) (g : FVec Ideal S1x128 .f32) (c s : FVec Ideal S1024x128 .f32)
    (a : Fin 1024) (b : Fin 512) : EReal :=
  head v3 g c s (b.val / 128 * 128) (by omega) a ⟨b.val % 128, Nat.mod_lt _ (by decide)⟩

theorem heads_at (v3 : FVec Ideal S1024x512 .f32) (g : FVec Ideal S1x128 .f32) (c s : FVec Ideal S1024x128 .f32)
    (o : ℕ) (ho : o + 128 ≤ 512) (h : o % 128 = 0) (a : Fin 1024) (b : Fin 128) :
    heads v3 g c s a ⟨o + b.val, by omega⟩ = head v3 g c s o ho a b := by
  have e1 : (o + b.val) / 128 * 128 = o := by omega
  have e2 : (⟨(o + b.val) % 128, Nat.mod_lt _ (by decide)⟩ : Fin 128) = b := Fin.ext (by simp only; omega)
  unfold heads
  simp only [e1, e2]

/-- Four heads, as a block. -/
def block (v3 : FVec Ideal S1024x512 .f32) (g : FVec Ideal S1x128 .f32) (c s : FVec Ideal S1024x128 .f32) (y : S1024x512.Idx) : EReal :=
  heads v3 g c s (y 0) (y 1)

/-- Four queries, as a block. -/
def scaled (v3 : FVec Ideal S1024x512 .f32) (g : FVec Ideal S1x128 .f32) (c s : FVec Ideal S1024x128 .f32) (y : S1024x512.Idx) : EReal :=
  heads v3 g c s (y 0) (y 1) * queryScale

/-- Where a head's store puts its index. -/
theorem placed (o : ℕ) (ho : o + 128 ≤ 512) (inb) (a : Fin 1024) (b : Fin 128) :
    (Rect.unit (s := S1024x512) ![0, o] S1024x128.size inb).emb (ix2 a b) = ix2 a ⟨o + b.val, by omega⟩ := by
  refine funext fun d => Fin.ext ?_
  refine Eq.trans (Rect.idx_unit_val (s := S1024x512) ![0, o] S1024x128.size inb (ix2 a b) d : _) ?_
  match d with
  | ⟨0, _⟩ => exact Nat.zero_add _
  | ⟨1, _⟩ => rfl

/-- A store of a head is a part of the block of four. -/
theorem block_store (v3 : FVec Ideal S1024x512 .f32) (g : FVec Ideal S1x128 .f32) (c s : FVec Ideal S1024x128 .f32)
    (o : ℕ) (ho : o + 128 ≤ 512) (h : o % 128 = 0) (inb) (a : Fin 1024) (b : Fin 128) :
    head v3 g c s o ho a b
      = block v3 g c s ((Rect.unit (s := S1024x512) ![0, o] S1024x128.size inb).emb (ix2 a b)) :=
  (heads_at v3 g c s o ho h a b).symm.trans (congrArg (block v3 g c s) (placed o ho inb a b)).symm

/-- The same of a scaled head. -/
theorem scaled_store (v3 : FVec Ideal S1024x512 .f32) (g : FVec Ideal S1x128 .f32) (c s : FVec Ideal S1024x128 .f32)
    (o : ℕ) (ho : o + 128 ≤ 512) (h : o % 128 = 0) (inb) (a : Fin 1024) (b : Fin 128) :
    head v3 g c s o ho a b * queryScale
      = scaled v3 g c s ((Rect.unit (s := S1024x512) ![0, o] S1024x128.size inb).emb (ix2 a b)) :=
  congrArg (· * queryScale) (block_store v3 g c s o ho h inb a b)

section Cases

variable (c : Dev nD) (i : grid0.Coords)
  (arg2 : Memref sig .tc .vmem S1024x4096 .bf16) (harg2 : arg2.IsWhole) (arg3 : Memref sig .tc .vmem S1x4096x512 .bf16) (harg3 : arg3.IsWhole)
  (arg4 : Memref sig .tc .vmem S1024x128 .f32) (harg4 : arg4.IsWhole) (arg5 : Memref sig .tc .vmem S1024x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1024x512 .bf16) (harg8 : arg8.IsWhole)
  (x0 : Vec Ideal S1024x4096 .bf16) (x1 : Vec Ideal S1x4096x512 .bf16) (x2 x3 : Vec Ideal S1024x128 .f32) (x4 x5 : Vec Ideal S1x128 .f32)

/-- The product as case A computes it, from its loads. -/
abbrev loaded : FVec Ideal S1024x512 .f32 :=
  k0_pay1 (F := Ideal)
    (View.readAt (Elt Ideal) arg2.view (Rect.unit (s := S1024x4096) ![0, 0] S1024x4096.size inb_S1024x4096_S1024x4096_0_0).toLoadRect (harg2.unread x0))
    (View.readAt (Elt Ideal) arg3.view (Rect.unit (s := S1x4096x512) ![0, 0, 0] S1x4096x512.size inb_S1x4096x512_S1x4096x512_0_0_0).toLoadRect (harg3.unread x1))

/-- A load of a block of a table. -/
abbrev loadT (arg : Memref sig .tc .vmem S1024x128 .f32) (harg : arg.IsWhole) (x : Vec Ideal S1024x128 .f32) : Vec Ideal S1024x128 .f32 :=
  View.readAt (Elt Ideal) arg.view (Rect.unit (s := S1024x128) ![0, 0] S1024x128.size inb_S1024x128_S1024x128_0_0).toLoadRect (harg.unread x)

/-- A load of a gain. -/
abbrev loadG (arg : Memref sig .tc .vmem S1x128 .f32) (harg : arg.IsWhole) (x : Vec Ideal S1x128 .f32) : Vec Ideal S1x128 .f32 :=
  View.readAt (Elt Ideal) arg.view (Rect.unit (s := S1x128) ![0, 0] S1x128.size inb_S1x128_S1x128_0_0).toLoadRect (harg.unread x)

theorem loadT_eq (arg : Memref sig .tc .vmem S1024x128 .f32) (harg : arg.IsWhole) (x : Vec Ideal S1024x128 .f32) :
    loadT arg harg x = x := readWhole harg x _ (fun a => by fin_cases a <;> rfl)

theorem loadG_eq (arg : Memref sig .tc .vmem S1x128 .f32) (harg : arg.IsWhole) (x : Vec Ideal S1x128 .f32) :
    loadG arg harg x = x := readWhole harg x _ (fun a => by fin_cases a <;> rfl)

theorem loaded_eq : loaded arg2 harg2 arg3 harg3 x0 x1 = k0_pay1 (F := Ideal) x0 x1 :=
  congrArg₂ (k0_pay1 (F := Ideal)) (readWhole harg2 x0 _ (fun a => by fin_cases a <;> rfl))
    (readWhole harg3 x1 _ (fun a => by fin_cases a <;> rfl))

/-- What case A's run stores. -/
theorem piecesA (h0 : cond0_0 i) (h1 : ¬cond0_1 i) (h2 : ¬cond0_2 i) :
    (kernelRun0_A (F := Ideal) c i arg2 harg2 arg3 harg3 arg4 harg4 arg5 harg5 arg6 harg6 arg7 harg7 arg8 harg8 h0 h1 h2 x0 x1 x2 x3 x4 x5).1
      = [⟨Rect.unit (s := S1024x512) ![0, 384] S1024x128.size inb_S1024x512_S1024x128_0_384, k0_pay2 (F := Ideal)
            (k0_pay16 (F := Ideal) (loadT arg4 harg4 x2)) (k0_pay17 (F := Ideal) (loadT arg5 harg5 x3))
            (k0_pay18 (F := Ideal) (loaded arg2 harg2 arg3 harg3 x0 x1)) (k0_pay19 (F := Ideal) (loadG arg6 harg6 x4))⟩,
         ⟨Rect.unit (s := S1024x512) ![0, 256] S1024x128.size inb_S1024x512_S1024x128_0_256, k0_pay15 (F := Ideal)
            (k0_pay10 (F := Ideal) (loaded arg2 harg2 arg3 harg3 x0 x1)) (k0_pay11 (F := Ideal) (loadG arg6 harg6 x4))
            (k0_pay12 (F := Ideal) (loadT arg4 harg4 x2)) (k0_pay13 (F := Ideal) (loadT arg5 harg5 x3))
            (k0_pay14 (F := Ideal) (loaded arg2 harg2 arg3 harg3 x0 x1)) (Scalar.ofBits (F := Ideal) .f32 0x43000000#32)⟩,
         ⟨Rect.unit (s := S1024x512) ![0, 128] S1024x128.size inb_S1024x512_S1024x128_0_128, k0_pay9 (F := Ideal)
            (k0_pay6 (F := Ideal) (loaded arg2 harg2 arg3 harg3 x0 x1)) (k0_pay7 (F := Ideal) (loadG arg6 harg6 x4))
            (k0_pay8 (F := Ideal) (loadT arg4 harg4 x2)) (loadT arg5 harg5 x3)⟩,
         ⟨Rect.unit (s := S1024x512) ![0, 0] S1024x128.size inb_S1024x512_S1024x128_0_0, k0_pay5 (F := Ideal)
            (loaded arg2 harg2 arg3 harg3 x0 x1) (loadG arg6 harg6 x4) (loadT arg4 harg4 x2) (loadT arg5 harg5 x3)⟩] := by
  unfold kernelRun0_A
  rfl

/-- What case B's run stores. -/
theorem piecesB (h0 : ¬cond0_0 i) (h1 : cond0_1 i) (h2 : ¬cond0_2 i) :
    (kernelRun0_B (F := Ideal) c i arg2 harg2 arg3 harg3 arg4 harg4 arg5 harg5 arg6 harg6 arg7 harg7 arg8 harg8 h0 h1 h2 x0 x1 x2 x3 x4 x5).1
      = [⟨Rect.unit (s := S1024x512) ![0, 384] S1024x128.size inb_S1024x512_S1024x128_0_384, k0_pay3 (F := Ideal)
            (k0_pay31 (F := Ideal) (loadT arg4 harg4 x2)) (k0_pay32 (F := Ideal) (loadT arg5 harg5 x3))
            (k0_pay33 (F := Ideal) (loaded arg2 harg2 arg3 harg3 x0 x1) (loadG arg7 harg7 x5)) k0_pay34 96#32⟩,
         ⟨Rect.unit (s := S1024x512) ![0, 256] S1024x128.size inb_S1024x512_S1024x128_0_256, k0_pay30 (F := Ideal)
            (k0_pay25 (F := Ideal) (loaded arg2 harg2 arg3 harg3 x0 x1)) (k0_pay26 (F := Ideal) (loadG arg7 harg7 x5))
            (k0_pay27 (F := Ideal) (loadT arg4 harg4 x2)) (k0_pay28 (F := Ideal) (loadT arg5 harg5 x3))
            (k0_pay29 (F := Ideal) (loaded arg2 harg2 arg3 harg3 x0 x1))⟩,
         ⟨Rect.unit (s := S1024x512) ![0, 128] S1024x128.size inb_S1024x512_S1024x128_0_128, k0_pay24 (F := Ideal)
            (k0_pay21 (F := Ideal) (loaded arg2 harg2 arg3 harg3 x0 x1)) (k0_pay22 (F := Ideal) (loadG arg7 harg7 x5))
            (k0_pay23 (F := Ideal) (loadT arg4 harg4 x2)) (loadT arg5 harg5 x3)⟩,
         ⟨Rect.unit (s := S1024x512) ![0, 0] S1024x128.size inb_S1024x512_S1024x128_0_0, k0_pay20 (F := Ideal)
            (loaded arg2 harg2 arg3 harg3 x0 x1) (loadG arg7 harg7 x5) (loadT arg4 harg4 x2) (loadT arg5 harg5 x3)⟩] := by
  unfold kernelRun0_B
  rfl

/-- What case C's run stores. -/
theorem piecesC (h0 : ¬cond0_0 i) (h1 : ¬cond0_1 i) (h2 : cond0_2 i) :
    (kernelRun0_C (F := Ideal) c i arg2 harg2 arg3 harg3 arg4 harg4 arg5 harg5 arg6 harg6 arg7 harg7 arg8 harg8 h0 h1 h2 x0 x1 x2 x3 x4 x5).1
      = [⟨Rect.unit (s := S1024x512) ![0, 0] S1024x512.size inb_S1024x512_S1024x512_0_0, k0_pay4 (F := Ideal)
    (View.readAt (Elt Ideal) arg2.view (Rect.unit (s := S1024x4096) ![0, 0] S1024x4096.size inb_S1024x4096_S1024x4096_0_0).toLoadRect (harg2.unread x0))
    (View.readAt (Elt Ideal) arg3.view (Rect.unit (s := S1x4096x512) ![0, 0, 0] S1x4096x512.size inb_S1x4096x512_S1x4096x512_0_0_0).toLoadRect (harg3.unread x1))⟩] := by
  unfold kernelRun0_C
  rfl

/-- The block of a point of the queries. -/
theorem outA_at (h0 : cond0_0 i) (h1 : ¬cond0_1 i) (h2 : ¬cond0_2 i) (y : S1024x512.Idx) :
    out0_A_6 (F := Ideal) c i arg2 harg2 arg3 harg3 arg4 harg4 arg5 harg5 arg6 harg6 arg7 harg7 arg8 harg8 h0 h1 h2 x0 x1 x2 x3 x4 x5 y
      = scaled (k0_pay1 (F := Ideal) x0 x1) x4 x2 x3 y := by
  unfold out0_A_6
  rw [View.read_writes_junk_eq_canon]
  refine View.canon_apply_of_pieces (Val := Elt Ideal) (e := .bf16) (scaled (k0_pay1 (F := Ideal) x0 x1) x4 x2 x3) _ ?_ y
    (cover0_A_6 (F := Ideal) c i arg2 harg2 arg3 harg3 arg4 harg4 arg5 harg5 arg6 harg6 arg7 harg7 arg8 harg8 h0 h1 h2 x0 x1 x2 x3 x4 x5 y)
  rw [piecesA, loaded_eq, loadT_eq, loadT_eq, loadG_eq]
  refine View.PiecesOf.mem (Val := Elt Ideal) (e := .bf16) ⟨fun y => ?_, fun y => ?_, fun y => ?_, fun y => ?_, trivial⟩
  all_goals idx_vars y
  · exact (query_3 _ _ _ _ y0 y1).trans (scaled_store _ _ _ _ 384 (by decide) (by decide) _ y0 y1)
  · exact (query_2 _ _ _ _ y0 y1).trans (scaled_store _ _ _ _ 256 (by decide) (by decide) _ y0 y1)
  · exact (query_1 _ _ _ _ y0 y1).trans (scaled_store _ _ _ _ 128 (by decide) (by decide) _ y0 y1)
  · exact (query_0 _ _ _ _ y0 y1).trans (scaled_store _ _ _ _ 0 (by decide) (by decide) _ y0 y1)

/-- The block of a point of the keys. -/
theorem outB_at (h0 : ¬cond0_0 i) (h1 : cond0_1 i) (h2 : ¬cond0_2 i) (y : S1024x512.Idx) :
    out0_B_6 (F := Ideal) c i arg2 harg2 arg3 harg3 arg4 harg4 arg5 harg5 arg6 harg6 arg7 harg7 arg8 harg8 h0 h1 h2 x0 x1 x2 x3 x4 x5 y
      = block (k0_pay1 (F := Ideal) x0 x1) x5 x2 x3 y := by
  unfold out0_B_6
  rw [View.read_writes_junk_eq_canon]
  refine View.canon_apply_of_pieces (Val := Elt Ideal) (e := .bf16) (block (k0_pay1 (F := Ideal) x0 x1) x5 x2 x3) _ ?_ y
    (cover0_B_6 (F := Ideal) c i arg2 harg2 arg3 harg3 arg4 harg4 arg5 harg5 arg6 harg6 arg7 harg7 arg8 harg8 h0 h1 h2 x0 x1 x2 x3 x4 x5 y)
  rw [piecesB, loaded_eq, loadT_eq, loadT_eq, loadG_eq]
  refine View.PiecesOf.mem (Val := Elt Ideal) (e := .bf16) ⟨fun y => ?_, fun y => ?_, fun y => ?_, fun y => ?_, trivial⟩
  all_goals idx_vars y
  · exact (key_3 _ _ _ _ y0 y1).trans (block_store _ _ _ _ 384 (by decide) (by decide) _ y0 y1)
  · exact (key_2 _ _ _ _ y0 y1).trans (block_store _ _ _ _ 256 (by decide) (by decide) _ y0 y1)
  · exact (key_1 _ _ _ _ y0 y1).trans (block_store _ _ _ _ 128 (by decide) (by decide) _ y0 y1)
  · exact (key_0 _ _ _ _ y0 y1).trans (block_store _ _ _ _ 0 (by decide) (by decide) _ y0 y1)

/-- The block of any other point. -/
theorem outC_at (h0 : ¬cond0_0 i) (h1 : ¬cond0_1 i) (h2 : cond0_2 i) (a : Fin 1024) (b : Fin 512) :
    out0_C_6 (F := Ideal) c i arg2 harg2 arg3 harg3 arg4 harg4 arg5 harg5 arg6 harg6 arg7 harg7 arg8 harg8 h0 h1 h2 x0 x1 x2 x3 x4 x5 (ix2 a b)
      = ∑ k : Fin 4096, x0 (ix2 a k) * x1 (ix3 0 k b) := by
  unfold out0_C_6
  rw [View.read_writes_junk_eq_canon, piecesC, View.canon_cons_unit_lit' _ _ _ (by decide), plain_at]
  exact Finset.sum_congr rfl fun k _ => congrArg₂ (· * ·)
    (readBlock_at harg2 x0 _ (ix2 a k) (ix2 a k) (fun a => by fin_cases a <;> simp))
    (readBlock_at harg3 x1 _ (ix3 0 k b) (ix3 0 k b) (fun a => by fin_cases a <;> simp))

end Cases

end Cert.InIdeal.Input

end
-- ==== Proof.Input.Reference.lean ====
/-
  THE INPUT PROJECTION'S REFERENCE, stage by stage.
-/
module

public import proofs.«01_k».proof.Proof.Input.Heads
public import proofs.«01_k».proof.Proof.Gen.InRefIdeal.Read

@[expose] public section

set_option maxRecDepth 16384

noncomputable section

namespace Cert.InIdeal.Input

open Idealize.ShloMosaic Idealize.ShloMosaic.TcCoe Idealize.SL.Sem

/-- The hidden states, at (token, channel). -/
abbrev Hidden : Type := (⟨2, ![16384, 4096]⟩ : Shape).Idx → EReal

/-- The weights, at (layer, channel, feature). -/
abbrev Weight : Type := (⟨3, ![2, 4096, 5120]⟩ : Shape).Idx → EReal

/-- A table of angles' cosines or sines, at (position, angle). -/
abbrev Table : Type := (⟨2, ![2048, 32]⟩ : Shape).Idx → EReal

/-- The gain of a head, at a lane. -/
abbrev Gain : Type := (⟨1, ![128]⟩ : Shape).Idx → EReal

/-- The product with the last layer's weight. -/
def product (H : Hidden) (W : Weight) (r : Fin 16384) (j : Fin 5120) : EReal :=
  ∑ k : Fin 4096, H (ix2 r k) * W (ix3 1 k j)

/-- The cosine a lane is turned by: the row angles for the first half, the column angles for the second. -/
def cosAt (cr cc : Table) (p : Fin 2048) (d : Fin 128) : EReal :=
  if d.val < 64 then cr (ix2 p ⟨d.val % 32, Nat.mod_lt _ (by decide)⟩)
  else cc (ix2 p ⟨d.val % 32, Nat.mod_lt _ (by decide)⟩)

/-- The signed sine. -/
def sinAt (sr sc : Table) (p : Fin 2048) (d : Fin 128) : EReal :=
  if d.val < 32 then -sr (ix2 p ⟨d.val % 32, Nat.mod_lt _ (by decide)⟩)
  else if d.val < 64 then sr (ix2 p ⟨d.val % 32, Nat.mod_lt _ (by decide)⟩)
  else if d.val < 96 then -sc (ix2 p ⟨d.val % 32, Nat.mod_lt _ (by decide)⟩)
  else sc (ix2 p ⟨d.val % 32, Nat.mod_lt _ (by decide)⟩)

/-- The token at a position of a sequence. -/
def tokenOf (q : Fin 8) (p : Fin 2048) : Fin 16384 := ⟨q.val * 2048 + p.val, by omega⟩

/-- The position of a token in its sequence. -/
def posOf (r : Fin 16384) : Fin 2048 := ⟨r.val % 2048, Nat.mod_lt _ (by decide)⟩

/-- The head a feature of a token belongs to, normalised and turned, at the feature. -/
def headAt (H : Hidden) (W : Weight) (cr sr cc sc : Table) (g : Gain) (r : Fin 16384) (j : Fin 5120) : EReal :=
  turned (normed (fun k => product H W r ⟨j.val / 128 * 128 + k.val, by omega⟩) fun k => g (ix1 k))
    (cosAt cr cc (posOf r)) (sinAt sr sc (posOf r)) ⟨j.val % 128, Nat.mod_lt _ (by decide)⟩

/-- The projection, at a token's feature: scaled queries, keys, then values and the Fourier branch's input as they are. -/
def projected (H : Hidden) (W : Weight) (cr sr cc sc : Table) (qg kg : Gain) (r : Fin 16384) (j : Fin 5120) : EReal :=
  if j.val < 2048 then headAt H W cr sr cc sc qg r j * queryScale
  else if j.val < 2560 then headAt H W cr sr cc sc kg r j
  else product H W r j

/-- The projection, as an array. -/
def result (H : Hidden) (W : Weight) (cr sr cc sc : Table) (qg kg : Gain) (y : (⟨2, ![16384, 5120]⟩ : Shape).Idx) : EReal :=
  projected H W cr sr cc sc qg kg (y 0) (y 1)

theorem result_ix2 (H : Hidden) (W : Weight) (cr sr cc sc : Table) (qg kg : Gain) (r : Fin 16384) (j : Fin 5120) :
    result H W cr sr cc sc qg kg (ix2 r j) = projected H W cr sr cc sc qg kg r j := rfl

/-- A turned head, quarter by quarter. -/
theorem turned_lane (n : Fin 128 → EReal) (cr sr cc sc : Table) (p : Fin 2048) (d : Fin 128) :
    (if h1 : d.val < 64 then
      if h2 : d.val < 32 then
        n ⟨d.val, by omega⟩ * cr (ix2 p ⟨d.val, by omega⟩) - n ⟨32 + d.val, by omega⟩ * sr (ix2 p ⟨d.val, by omega⟩)
      else
        n ⟨32 + (d.val - 32), by omega⟩ * cr (ix2 p ⟨d.val - 32, by omega⟩)
          + n ⟨d.val - 32, by omega⟩ * sr (ix2 p ⟨d.val - 32, by omega⟩)
    else
      if h2 : d.val - 64 < 32 then
        n ⟨64 + (d.val - 64), by omega⟩ * cc (ix2 p ⟨d.val - 64, by omega⟩)
          - n ⟨64 + (32 + (d.val - 64)), by omega⟩ * sc (ix2 p ⟨d.val - 64, by omega⟩)
      else
        n ⟨64 + (32 + (d.val - 64 - 32)), by omega⟩ * cc (ix2 p ⟨d.val - 64 - 32, by omega⟩)
          + n ⟨64 + (d.val - 64 - 32), by omega⟩ * sc (ix2 p ⟨d.val - 64 - 32, by omega⟩))
      = turned n (cosAt cr cc p) (sinAt sr sc p) d := by
  have at_n {i j : ℕ} (hi : i < 128) (hj : j < 128) (e : i = j) : n ⟨i, hi⟩ = n ⟨j, hj⟩ := by subst e; rfl
  have at_t (T : Table) {i j : ℕ} (hi : i < 32) (hj : j < 32) (e : i = j) : T (ix2 p ⟨i, hi⟩) = T (ix2 p ⟨j, hj⟩) := by
    subst e; rfl
  obtain ⟨d, hd⟩ := d
  unfold turned opposite cosAt sinAt
  simp only
  by_cases h1 : d < 64
  · by_cases h2 : d < 32
    · have h3 : d % 64 < 32 := by omega
      simp only [h1, h2, h3, ↓reduceDIte, ↓reduceIte]
      rw [sub_eq_add_neg, ← mul_neg]
      exact congrArg₂ (· + ·) (congrArg₂ (· * ·) rfl (at_t cr _ _ (by omega)))
        (congrArg₂ (· * ·) (at_n _ _ (by omega)) (congrArg (- ·) (at_t sr _ _ (by omega))))
    · have h3 : ¬d % 64 < 32 := by omega
      simp only [h1, h2, h3, ↓reduceDIte, ↓reduceIte]
      exact congrArg₂ (· + ·) (congrArg₂ (· * ·) (at_n _ _ (by omega)) (at_t cr _ _ (by omega)))
        (congrArg₂ (· * ·) (at_n _ _ (by omega)) (at_t sr _ _ (by omega)))
  · by_cases h2 : d - 64 < 32
    · have h3 : d % 64 < 32 := by omega
      have h4 : ¬d < 32 := by omega
      have h5 : d < 96 := by omega
      simp only [h1, h2, h3, h4, h5, ↓reduceDIte, ↓reduceIte]
      rw [sub_eq_add_neg, ← mul_neg]
      exact congrArg₂ (· + ·) (congrArg₂ (· * ·) (at_n _ _ (by omega)) (at_t cc _ _ (by omega)))
        (congrArg₂ (· * ·) (at_n _ _ (by omega)) (congrArg (- ·) (at_t sc _ _ (by omega))))
    · have h3 : ¬d % 64 < 32 := by omega
      have h4 : ¬d < 32 := by omega
      have h5 : ¬d < 96 := by omega
      simp only [h1, h2, h3, h4, h5, ↓reduceDIte, ↓reduceIte]
      exact congrArg₂ (· + ·) (congrArg₂ (· * ·) (at_n _ _ (by omega)) (at_t cc _ _ (by omega)))
        (congrArg₂ (· * ·) (at_n _ _ (by omega)) (at_t sc _ _ (by omega)))

section Reference

open Cert.InRefIdeal Cert.InRefIdeal.Read

variable (H : Hidden) (W : Weight) (cr sr cc sc : Table) (qg kg : Gain)

/-- The reference's projection. -/
theorem product_ref (q : Fin 8) (p : Fin 2048) (j : Fin 5120) :
    val_main_v4 (F := Ideal) H W (ix3 q p j) = product H W (tokenOf q p) j := by
  unfold product tokenOf
  pointwise [val_main_v4, val_main_v3, val_main_v2, val_main_v1, val_main_v0]

/-- The reference's normalised queries. -/
theorem query_normed (q : Fin 8) (p : Fin 2048) (h : Fin 16) (d : Fin 128) :
    val_main_v22 (F := Ideal) H W qg (ix4 q p h d)
      = normed (fun k => val_main_v4 (F := Ideal) H W (ix3 q p ⟨h.val * 128 + k.val, by omega⟩)) (fun k => qg (ix1 k)) d := by
  unfold normed scale
  pointwise [val_main_v22, val_main_v21, val_main_v20, val_main_v19, val_main_v18, val_main_v17, val_main_v16, val_main_v15, val_main_v14, val_main_v13, val_main_v12, val_main_v11, val_main_v10, val_main_v9, val_main_v5, val_main_cst, val_main_cst_0, val_main_cst_1]

/-- The reference's normalised keys. -/
theorem key_normed (q : Fin 8) (p : Fin 2048) (h : Fin 4) (d : Fin 128) :
    val_main_v69 (F := Ideal) H W kg (ix4 q p h d)
      = normed (fun k => val_main_v4 (F := Ideal) H W (ix3 q p ⟨2048 + (h.val * 128 + k.val), by omega⟩)) (fun k => kg (ix1 k)) d := by
  unfold normed scale
  pointwise [val_main_v69, val_main_v68, val_main_v67, val_main_v66, val_main_v65, val_main_v64, val_main_v63, val_main_v62, val_main_v61, val_main_v60, val_main_v59, val_main_v58, val_main_v57, val_main_v56, val_main_v6, val_main_cst_2, val_main_cst_3, val_main_cst_4]

/-- The reference's turned queries. -/
theorem query_turned (q : Fin 8) (p : Fin 2048) (h : Fin 16) (d : Fin 128) :
    val_main_v55 (F := Ideal) H W cr sr cc sc qg (ix4 q p h d)
      = turned (fun k => val_main_v22 (F := Ideal) H W qg (ix4 q p h k)) (cosAt cr cc p) (sinAt sr sc p) d := by
  rw [← turned_lane]
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]

/-- The reference's turned keys. -/
theorem key_turned (q : Fin 8) (p : Fin 2048) (h : Fin 4) (d : Fin 128) :
    val_main_v102 (F := Ideal) H W cr sr cc sc kg (ix4 q p h d)
      = turned (fun k => val_main_v69 (F := Ideal) H W kg (ix4 q p h k)) (cosAt cr cc p) (sinAt sr sc p) d := by
  rw [← turned_lane]
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70]

/-- The factor the reference divides by is one over the kernel's. -/
theorem query_factor (x : EReal) :
    Ideal.div x (Ideal.sqrt (Ideal.ofBits .f32 0x43000000#32) * Ideal.log (Ideal.ofBits .f32 0x40000000#32)) = x * queryScale := by
  have h128 : Ideal.ofBits .f32 0x43000000#32 = ((128 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hs : Real.sqrt 128 ≠ 0 := (Real.sqrt_pos.mpr (by norm_num)).ne'
  have hl : Real.log 2 ≠ 0 := (Real.log_pos (by norm_num)).ne'
  rw [h128, h2, Ideal.sqrt_coe, Ideal.log_coe, if_neg (by norm_num), if_neg (by norm_num), ← EReal.coe_mul,
    Ideal.div_coe (mul_ne_zero hs hl), one_div, mul_inv]
  rfl

/-- The reference's result at a position, group by group. -/
theorem groups_ref (q : Fin 8) (p : Fin 2048) (j : Fin 5120) :
    val_main_v110 (F := Ideal) H W cr sr cc sc qg kg (ix3 q p j)
      = if h : j.val < 2048 then
          val_main_v55 (F := Ideal) H W cr sr cc sc qg (ix4 q p ⟨j.val / 128, by omega⟩ ⟨j.val % 128, by omega⟩)
            * queryScale
        else if h : j.val - 2048 < 512 then
          val_main_v102 (F := Ideal) H W cr sr cc sc kg
            (ix4 q p ⟨(j.val - 2048) / 128, by omega⟩ ⟨(j.val - 2048) % 128, by omega⟩)
        else if h : j.val - 2048 - 512 < 512 then val_main_v4 (F := Ideal) H W (ix3 q p ⟨2560 + (j.val - 2048 - 512), by omega⟩)
        else val_main_v4 (F := Ideal) H W (ix3 q p ⟨3072 + (j.val - 2048 - 512 - 512), by omega⟩) := by
  simp only [← query_factor]
  pointwise [val_main_v110, val_main_v109, val_main_v108, val_main_v107, val_main_v106, val_main_v105, val_main_v104,
    val_main_v103, val_main_cst_5, val_main_cst_6, val_main_v8, val_main_v7]

/-- The reference's result at a token. -/
theorem tokens_ref (r : Fin 16384) (j : Fin 5120) :
    val_main_v112 (F := Ideal) H W cr sr cc sc qg kg (ix2 r j)
      = val_main_v110 (F := Ideal) H W cr sr cc sc qg kg (ix3 ⟨r.val / 2048, by omega⟩ (posOf r) j) := by
  unfold posOf
  pointwise [val_main_v112, val_main_v111]

/-- THE REFERENCE'S RESULT. -/
theorem reference_eq : val_main_v112 (F := Ideal) H W cr sr cc sc qg kg = result H W cr sr cc sc qg kg := by
  funext y
  idx_vars y
  rw [result_ix2, tokens_ref, groups_ref]
  have ht : tokenOf ⟨y0.val / 2048, by omega⟩ (posOf y0) = y0 :=
    Fin.ext (by show y0.val / 2048 * 2048 + y0.val % 2048 = y0.val; omega)
  unfold projected headAt
  by_cases hj : y1.val < 2048
  · rw [dif_pos hj, if_pos hj]
    simp only [query_turned, query_normed, product_ref, ht]
  rw [dif_neg hj, if_neg hj]
  by_cases hk : y1.val < 2560
  · rw [dif_pos (by omega), if_pos hk]
    simp only [key_turned, key_normed, product_ref, ht]
    have e1 (k : Fin 128) : (⟨2048 + ((y1.val - 2048) / 128 * 128 + k.val), by omega⟩ : Fin 5120)
        = ⟨y1.val / 128 * 128 + k.val, by omega⟩ := Fin.ext (by simp only; omega)
    have e2 : (⟨(y1.val - 2048) % 128, by omega⟩ : Fin 128) = ⟨y1.val % 128, by omega⟩ := Fin.ext (by simp only; omega)
    simp only [e1, e2]
  rw [dif_neg (by omega), if_neg hk]
  by_cases hv : y1.val - 2048 - 512 < 512
  · have e : (⟨2560 + (y1.val - 2048 - 512), by omega⟩ : Fin 5120) = y1 := Fin.ext (by simp only; omega)
    rw [dif_pos hv, product_ref, ht, e]
  · have e : (⟨3072 + (y1.val - 2048 - 512 - 512), by omega⟩ : Fin 5120) = y1 := Fin.ext (by simp only; omega)
    rw [dif_neg hv, product_ref, ht, e]

end Reference

end Cert.InIdeal.Input

end
-- ==== Proof.Input.Project.lean ====
/-
  THE INPUT PROJECTION: what the kernel's array ends holding.
-/
module

public import proofs.«01_k».proof.Proof.Input.Tile
public import proofs.«01_k».proof.Proof.Input.Reference

@[expose] public section

set_option maxRecDepth 16384

noncomputable section

namespace Cert.InIdeal.Input

open Idealize.ShloMosaic Idealize.ShloMosaic.TcCoe Idealize.SL.Sem
open Cert.InIdeal Cert.InIdeal.Gen

variable (m : (ℓ : Loc nD τ sig) → Buf (Elt Ideal) ℓ) (c : Dev nD)

/-- The block index of each window at a grid point: row block `t / 10`, feature block `t % 10`. -/
theorem idx : ∀ t : Fin cfg0.N, win0_0.index t = ![t.val / 10, 0] ∧ win0_1.index t = ![1, 0, t.val % 10]
    ∧ win0_2.index t = ![t.val / 10 % 2, 0] ∧ win0_3.index t = ![t.val / 10 % 2, 0] ∧ win0_4.index t = ![0, 0]
    ∧ win0_5.index t = ![0, 0] ∧ win0_6.index t = ![t.val / 10, t.val % 10] :=
  (by decide +kernel : ∀ t : Fin grid0.N, _)

/-- The kernel's result. -/
def whole : (⟨2, ![16384, 5120]⟩ : Shape).Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A point's hidden states are the array's. -/
theorem hidden_block (t : Fin cfg0.N) (ht : t.val < 160) (a : Fin 1024) (k : Fin 4096) :
    iblk m c 0 t (ix2 a k) = m ((c : Thread nD τ).loc main_arg0) (ix2 ⟨t.val / 10 * 1024 + a.val, by omega⟩ k) := by
  blk_ext [iblk, V, (idx t).1]

/-- A point's weights are the last layer's, as the host's cast leaves them. -/
theorem weight_block (t : Fin cfg0.N) (b : Fin 512) (k : Fin 4096) :
    iblk m c 1 t (ix3 0 k b) = m ((c : Thread nD τ).loc main_arg1) (ix3 1 k ⟨t.val % 10 * 512 + b.val, by omega⟩) := by
  blk_ext [iblk, (idx t).2.1]

/-- Four tables side by side. -/
def joined (u v w x : Table) : (⟨2, ![2048, 128]⟩ : Shape).Idx → EReal :=
  concatenate (α := EReal) S2048x128 1 [⟨S2048x32, u⟩, ⟨S2048x32, v⟩, ⟨S2048x32, w⟩, ⟨S2048x32, x⟩]
    concatenates_S2048x32_S2048x32_S2048x32_S2048x32_S2048x128_d1

/-- Four tables side by side, at a position and a lane. -/
theorem joined_at (u v w x : Table) (p : Fin 2048) (k : Fin 128) : joined u v w x (ix2 p k)
    = if k.val < 32 then u (ix2 p ⟨k.val % 32, Nat.mod_lt _ (by decide)⟩)
      else if k.val < 64 then v (ix2 p ⟨k.val % 32, Nat.mod_lt _ (by decide)⟩)
      else if k.val < 96 then w (ix2 p ⟨k.val % 32, Nat.mod_lt _ (by decide)⟩)
      else x (ix2 p ⟨k.val % 32, Nat.mod_lt _ (by decide)⟩) := by
  pointwise [joined]
  by_cases h1 : k.val < 32
  · simp only [h1, ↓reduceDIte, ↓reduceIte, Nat.mod_eq_of_lt h1]
  by_cases h2 : k.val < 64
  · have h3 : k.val - 32 < 32 := by omega
    have e : k.val % 32 = k.val - 32 := by omega
    simp only [h1, h2, h3, e, ↓reduceDIte, ↓reduceIte]
  by_cases h3 : k.val < 96
  · have h4 : ¬ k.val - 32 < 32 := by omega
    have h5 : k.val - 32 - 32 < 32 := by omega
    have e : k.val % 32 = k.val - 32 - 32 := by omega
    simp only [h1, h2, h3, h4, h5, e, ↓reduceDIte, ↓reduceIte]
  · have h4 : ¬ k.val - 32 < 32 := by omega
    have h5 : ¬ k.val - 32 - 32 < 32 := by omega
    have e : k.val % 32 = k.val - 32 - 32 - 32 := by omega
    simp only [h1, h2, h3, h4, h5, e, ↓reduceDIte, ↓reduceIte]

/-- The opposite of a table. -/
def negated (u : Table) : Table := fun y => -u y

/-- Four buffers joined are their contents joined. -/
theorem joined_of (W : Valuation τ sig (Elt Ideal)) :
    (concatenate S2048x128 1
      [⟨S2048x32, ((fun k => W (Proc.devRef .tc (![main_v1, main_arg3, main_v2, main_arg5] k)) :
          (k : Fin 4) → (![main_v1, main_arg3, main_v2, main_arg5] k).ty.Contents (Elt Ideal)) 0 :
          (⟨S2048x32, .f32⟩ : BufTy).Contents (Elt Ideal))⟩,
        ⟨S2048x32, ((fun k => W (Proc.devRef .tc (![main_v1, main_arg3, main_v2, main_arg5] k)) :
          (k : Fin 4) → (![main_v1, main_arg3, main_v2, main_arg5] k).ty.Contents (Elt Ideal)) 1 :
          (⟨S2048x32, .f32⟩ : BufTy).Contents (Elt Ideal))⟩,
        ⟨S2048x32, ((fun k => W (Proc.devRef .tc (![main_v1, main_arg3, main_v2, main_arg5] k)) :
          (k : Fin 4) → (![main_v1, main_arg3, main_v2, main_arg5] k).ty.Contents (Elt Ideal)) 2 :
          (⟨S2048x32, .f32⟩ : BufTy).Contents (Elt Ideal))⟩,
        ⟨S2048x32, ((fun k => W (Proc.devRef .tc (![main_v1, main_arg3, main_v2, main_arg5] k)) :
          (k : Fin 4) → (![main_v1, main_arg3, main_v2, main_arg5] k).ty.Contents (Elt Ideal)) 3 :
          (⟨S2048x32, .f32⟩ : BufTy).Contents (Elt Ideal))⟩]
      concatenates_S2048x32_S2048x32_S2048x32_S2048x32_S2048x128_d1 : (⟨S2048x128, .f32⟩ : BufTy).Contents (Elt Ideal))
    = joined (W (Proc.devRef .tc main_v1)) (W (Proc.devRef .tc main_arg3)) (W (Proc.devRef .tc main_v2))
        (W (Proc.devRef .tc main_arg5)) := rfl

/-- The sines the region finds: negated, plain, negated, plain. -/
theorem sines_entry : V m c main_v3
    = joined (negated (m ((c : Thread nD τ).loc main_arg3))) (m ((c : Thread nD τ).loc main_arg3))
        (negated (m ((c : Thread nD τ).loc main_arg5))) (m ((c : Thread nD τ).loc main_arg5)) := by
  unfold V hostOps0
  simp only [StableHlo.after_cons, StableHlo.after_nil]
  rw [StableHlo.reshape_result_ne (h := by decide), StableHlo.reshape_result_ne (h := by decide),
    StableHlo.unary_result_ne (h := by decide), StableHlo.nary_result]
  refine (joined_of _).trans ?_
  rw [StableHlo.unary_result_ne (r := main_v1) (h := by decide), StableHlo.unary_result (y := main_v1), StableHlo.nary_result_ne (r := main_arg3) (h := by decide)]
  rw [StableHlo.unary_result_ne (r := main_arg3) (h := by decide), StableHlo.unary_result_ne (r := main_arg3) (h := by decide),
     StableHlo.nary_result_ne (r := main_arg3) (h := by decide)]
  rw [StableHlo.unary_result (y := main_v2), StableHlo.unary_result_ne (r := main_arg5) (h := by decide),
     StableHlo.nary_result_ne (r := main_arg5) (h := by decide),StableHlo.unary_result_ne (r := main_arg5) (h := by decide), StableHlo.unary_result_ne (r := main_arg5) (h := by decide),
     StableHlo.nary_result_ne (r := main_arg5) (h := by decide)]
  rfl

/-- The cosines the region finds: each table twice. -/
theorem cosines_entry : V m c main_v0
    = joined (m ((c : Thread nD τ).loc main_arg2)) (m ((c : Thread nD τ).loc main_arg2))
        (m ((c : Thread nD τ).loc main_arg4)) (m ((c : Thread nD τ).loc main_arg4)) := by
  entry_read
  rfl

/-- The joined cosines, at a position and a lane. -/
theorem cosine_table (p : Fin 2048) (k : Fin 128) : V m c main_v0 (ix2 p k)
    = cosAt (m ((c : Thread nD τ).loc main_arg2)) (m ((c : Thread nD τ).loc main_arg4)) p k := by
  rw [cosines_entry, joined_at, cosAt]
  split_ifs <;> first | rfl | omega

/-- The joined sines, at a position and a lane. -/
theorem sine_table (p : Fin 2048) (k : Fin 128) : V m c main_v3 (ix2 p k)
    = sinAt (m ((c : Thread nD τ).loc main_arg3)) (m ((c : Thread nD τ).loc main_arg5)) p k := by
  rw [sines_entry, joined_at, sinAt]
  rfl

/-- A point's cosines, as the host lays them out. -/
theorem cosine_block (t : Fin cfg0.N) (a : Fin 1024) (k : Fin 128) :
    iblk m c 2 t (ix2 a k) = cosAt (m ((c : Thread nD τ).loc main_arg2)) (m ((c : Thread nD τ).loc main_arg4))
      ⟨t.val / 10 % 2 * 1024 + a.val, by omega⟩ k := by
  rw [← cosine_table m c]
  blk_ext [iblk, (idx t).2.2.1]

/-- A point's signed sines, as the host lays them out. -/
theorem sine_block (t : Fin cfg0.N) (a : Fin 1024) (k : Fin 128) :
    iblk m c 3 t (ix2 a k) = sinAt (m ((c : Thread nD τ).loc main_arg3)) (m ((c : Thread nD τ).loc main_arg5))
      ⟨t.val / 10 % 2 * 1024 + a.val, by omega⟩ k := by
  rw [← sine_table m c]
  blk_ext [iblk, (idx t).2.2.2.1]

/-- The queries' gain, as the host lays it out. -/
theorem query_gain (t : Fin cfg0.N) (k : Fin 128) :
    iblk m c 4 t (ix2 0 k) = m ((c : Thread nD τ).loc main_arg6) (ix1 k) := by
  blk_point [iblk, V, (idx t).2.2.2.2.1]

/-- The keys' gain, as the host lays it out. -/
theorem key_gain (t : Fin cfg0.N) (k : Fin 128) :
    iblk m c 5 t (ix2 0 k) = m ((c : Thread nD τ).loc main_arg7) (ix1 k) := by
  blk_point [iblk, V, (idx t).2.2.2.2.2.1]

/-- A point's product is the projection's, at its row and feature block. -/
theorem product_block (t : Fin cfg0.N) (ht : t.val < 160) (a : Fin 1024) (b : Fin 512) :
    k0_pay1 (F := Ideal) (iblk m c 0 t) (iblk m c 1 t) (ix2 a b)
      = product (m ((c : Thread nD τ).loc main_arg0)) (m ((c : Thread nD τ).loc main_arg1))
          ⟨t.val / 10 * 1024 + a.val, by omega⟩ ⟨t.val % 10 * 512 + b.val, by omega⟩ := by
  rw [product_at]
  simp only [hidden_block m c t ht, weight_block m c t]
  rfl

/-- A point's heads are the projection's, at its row and feature block. -/
theorem heads_block (t : Fin cfg0.N) (ht : t.val < 160) (g : FVec Ideal S1x128 .f32) (G : Gain) (hg : ∀ k, g (ix2 0 k) = G (ix1 k))
    (a : Fin 1024) (b : Fin 512) :
    heads (k0_pay1 (F := Ideal) (iblk m c 0 t) (iblk m c 1 t)) g (iblk m c 2 t) (iblk m c 3 t) a b
      = headAt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) G
          ⟨t.val / 10 * 1024 + a.val, by omega⟩ ⟨t.val % 10 * 512 + b.val, by omega⟩ := by
  have ep : posOf ⟨t.val / 10 * 1024 + a.val, by omega⟩ = ⟨t.val / 10 % 2 * 1024 + a.val, by omega⟩ :=
    Fin.ext (by show (t.val / 10 * 1024 + a.val) % 2048 = t.val / 10 % 2 * 1024 + a.val; omega)
  have eb : (⟨(t.val % 10 * 512 + b.val) % 128, Nat.mod_lt _ (by decide)⟩ : Fin 128)
      = ⟨b.val % 128, Nat.mod_lt _ (by decide)⟩ := Fin.ext (by simp only; omega)
  have ej (k : Fin 128) : (⟨t.val % 10 * 512 + (b.val / 128 * 128 + k.val), by omega⟩ : Fin 5120)
      = ⟨(t.val % 10 * 512 + b.val) / 128 * 128 + k.val, by omega⟩ := Fin.ext (by simp only; omega)
  unfold heads head headAt
  rw [ep]
  simp only [product_block m c t ht, cosine_block m c t, sine_block m c t, hg, eb, ej]

/-- A point's output block, at an index. -/
theorem block_at (t : Fin cfg0.N) (ht : t.val < 160) (a : Fin 1024) (b : Fin 512) :
    outsAt0 m c t.val t.isLt (ix2 a b)
      = whole m c (ix2 ⟨t.val / 10 * 1024 + a.val, by omega⟩ ⟨t.val % 10 * 512 + b.val, by omega⟩) := by
  unfold whole
  rw [result_ix2]
  unfold projected
  by_cases h0 : t.val % 10 ≤ 3
  · have h1 : ¬t.val % 10 = 4 := by omega
    have h2 : ¬5 ≤ t.val % 10 := by omega
    rw [outsAt0_A m c t h0 h1 h2, outA_at, if_pos (by simp only; omega)]
    exact congrArg (· * queryScale) (heads_block m c t ht _ _ (query_gain m c t) a b)
  by_cases h1 : t.val % 10 = 4
  · have h2 : ¬5 ≤ t.val % 10 := by omega
    rw [outsAt0_B m c t h0 h1 h2, outB_at, if_neg (by simp only; omega), if_pos (by simp only; omega)]
    exact heads_block m c t ht _ _ (key_gain m c t) a b
  · have h2 : 5 ≤ t.val % 10 := by omega
    rw [outsAt0_C m c t h0 h1 h2, outC_at, if_neg (by simp only; omega), if_neg (by simp only; omega)]
    exact (product_at _ _ a b).symm.trans (product_block m c t ht a b)

/-- THE KERNEL'S RESULT. -/
theorem final : (dats m 0 c).arrAt 6 cfg0.N = whole m c := by
  refine (dats m 0 c).arrAt_eq_of_covers 6 _ (by decide +kernel) fun t _ y => ?_
  have ht : t.val < 160 := lt_of_lt_of_eq t.isLt N_0
  blk_simp
  rw [after0_6]
  idx_vars y
  rw [block_at m c t ht]
  blk_ext [(idx t).2.2.2.2.2.2]

end Cert.InIdeal.Input

end
-- ==== Proof.Fourier.Tile.lean ====
/-
  THE FOURIER MIXING'S TILES: what the body leaves in its two scratches (the channel transforms of a block of eight
  groups) and in its block of the output.
-/
module

public import proofs.«01_k».proof.Proof.Gen.FourIdeal.Value
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.Claim

@[expose] public section

set_option maxRecDepth 16384

noncomputable section

namespace Cert.FourIdeal.Fourier

open Idealize.ShloMosaic Idealize.ShloMosaic.TcCoe Idealize.SL.Sem
open Cert.FourIdeal Cert.FourIdeal.Gen

/-- A load through a unit rectangle of a scratch reads what was stored there, at the placed index. -/
theorem readCov_at {Val : EltTy → Type} [∀ e, Nonempty (Val e)] {κ : Kind} {sp : Space} {s : Shape} {e : EltTy}
    (v : View sig κ sp s e) (L : List (View.Piece Val s e)) {off size : Fin s.rank → Nat} (inb)
    (y : (Rect.unit off size inb).shape.Idx) (i : s.Idx) (hi : ∀ a, (i a : Nat) = off a + y a) :
    v.readCov L (Rect.unit off size inb).toLoadRect y = View.canon L i := by
  rw [View.readCov_eq_canon']
  exact congrArg (View.canon L) (funext fun a => Fin.ext ((Rect.idx_unit_val off size inb y a).trans (hi a).symm))

/-- A load through a unit rectangle of a staged block reads the block at the placed index. -/
theorem readBlock_at {Val : EltTy → Type} {κ : Kind} {sp : Space} {s : Shape} {e : EltTy} {m : Memref sig κ sp s e}
    (h : m.IsWhole) (X : s.Idx → Val e) {off size : Fin s.rank → Nat} (inb)
    (y : (Rect.unit off size inb).shape.Idx) (i : s.Idx) (hi : ∀ a, (i a : Nat) = off a + y a) :
    m.view.readAt Val (Rect.unit off size inb).toLoadRect (h.unread X) y = X i := by
  rw [h.readAt_unread]
  exact congrArg X (funext fun a => Fin.ext ((Rect.idx_unit_val off size inb y a).trans (hi a).symm))

/-- A load of a whole staged block reads the block. -/
theorem readWhole {Val : EltTy → Type} {κ : Kind} {sp : Space} {s : Shape} {e : EltTy} {m : Memref sig κ sp s e}
    (h : m.IsWhole) (X : s.Idx → Val e) {off : Fin s.rank → Nat} (inb) (h0 : ∀ a, off a = 0) :
    m.view.readAt Val (Rect.unit off s.size inb).toLoadRect (h.unread X) = X :=
  funext fun y => readBlock_at h X inb y y fun a => by rw [h0 a]; exact (Nat.zero_add _).symm

/-- A group through the first half of the channel table. -/
theorem left_at (u : FVec Ideal S1x2048x128 .bf16) (v : FVec Ideal S128x256 .bf16) (a : Fin 2048) (b : Fin 128) :
    k0_pay22 (F := Ideal) u v (ix2 a b) = ∑ k : Fin 128, u (ix3 0 a k) * v (ix2 k ⟨b.val, by omega⟩) := by
  pointwise [k0_pay22, k0_pay21]

/-- A group through the second half. -/
theorem right_at (u : FVec Ideal S1x2048x128 .bf16) (v : FVec Ideal S128x256 .bf16) (a : Fin 2048) (b : Fin 128) :
    k0_pay23 (F := Ideal) u v (ix2 a b) = ∑ k : Fin 128, u (ix3 0 a k) * v (ix2 k ⟨128 + b.val, by omega⟩) := by
  pointwise [k0_pay23, k0_pay21]

/-- The position transform of a tile, scaled. -/
theorem real_at (p : FVec Ideal S512x2048 .bf16) (x : FVec Ideal S2048x1024 .bf16) (q : FVec Ideal S512x2048 .bf16)
    (y : FVec Ideal S2048x1024 .bf16) (a : Fin 512) (b : Fin 1024) :
    k0_pay30 (F := Ideal) p x q y (ix2 a b)
      = (∑ s : Fin 2048, p (ix2 a s) * x (ix2 s b) - ∑ s : Fin 2048, q (ix2 a s) * y (ix2 s b)) * Ideal.ofBits .f32 0x3B000000#32 := by
  pointwise [k0_pay30]

/-- A group's columns of a tile through the group's weight. -/
def group (o : ℕ) (hs : S512x1024.Slices ![0, o] S512x128) (f : FVec Ideal S512x1024 .bf16) (w : Vec Ideal S1x1x128x128 .bf16) :
    FVec Ideal S1x512x128 .bf16 :=
  shapeCast S1x512x128
    (truncf .bf16 (matmul dot_S512x128_S128x128_S512x128_1_0_0_1_n_n none (extractStridedSlice S512x128 ![0, o] f hs)
      (shapeCast S128x128 w shapeCasts_S1x1x128x128_S128x128 : FVec Ideal S128x128 .bf16)
      (constant (F := Ideal) S512x128 .f32 0x00000000#32)) bitsLt_bf16_f32)
    shapeCasts_S512x128_S1x512x128

/-- A row's columns from `o` on through a weight. -/
def weighted (o : ℕ) (ho : o + 128 ≤ 1024) (f : FVec Ideal S512x1024 .bf16) (w : Vec Ideal S1x1x128x128 .bf16) (a : Fin 512) (b : Fin 128) : EReal :=
  ∑ k : Fin 128, f (ix2 a ⟨o + k.val, by omega⟩) * w (ix4 0 0 k b)

theorem group_at (o : ℕ) (ho : o + 128 ≤ 1024) (hs : S512x1024.Slices ![0, o] S512x128) (f : FVec Ideal S512x1024 .bf16)
    (w : Vec Ideal S1x1x128x128 .bf16) (a : Fin 512) (b : Fin 128) :
    group o hs f w (ix3 0 a b) = weighted o ho f w a b := by
  unfold weighted
  pointwise [group]

/-- Where a column store puts its index. -/
theorem placed (o : ℕ) (ho : o + 128 ≤ 1024) (inb) (a : Fin 2048) (b : Fin 128) :
    (Rect.unit (s := S2048x1024) ![0, o] S2048x128.size inb).emb (ix2 a b) = ix2 a ⟨o + b.val, by omega⟩ := by
  refine funext fun d => Fin.ext ?_
  refine Eq.trans (Rect.idx_unit_val (s := S2048x1024) ![0, o] S2048x128.size inb (ix2 a b) d : _) ?_
  match d with
  | ⟨0, _⟩ => exact Nat.zero_add _
  | ⟨1, _⟩ => rfl

/-- Where a group's store into the output puts its index. -/
theorem placed_out (o : ℕ) (ho : o + 128 ≤ 1024) (inb) (a : Fin 512) (b : Fin 128) :
    (Rect.unit (s := S1x512x1024) ![0, 0, o] S1x512x128.size inb).emb (ix3 0 a b) = ix3 0 a ⟨o + b.val, by omega⟩ := by
  refine funext fun d => Fin.ext ?_
  refine Eq.trans (Rect.idx_unit_val (s := S1x512x1024) ![0, 0, o] S1x512x128.size inb (ix3 0 a b) d : _) ?_
  match d with
  | ⟨0, _⟩ => rfl
  | ⟨1, _⟩ => exact Nat.zero_add _
  | ⟨2, _⟩ => rfl

/-- A block's channels transformed group by group, by the half of the channel table that starts at column `h`. -/
def channels (h : ℕ) (hh : h + 128 ≤ 256) (x0 : Vec Ideal S1x2048x1024 .bf16) (x1 : Vec Ideal S128x256 .bf16) (y : S2048x1024.Idx) : EReal :=
  ∑ k : Fin 128, x0 (ix3 0 (y 0) ⟨(y 1).val / 128 * 128 + k.val, by have : (y 1).val < 1024 := (y 1).isLt; omega⟩)
    * x1 (ix2 k ⟨h + (y 1).val % 128, by omega⟩)

theorem channels_ix2 (h : ℕ) (hh : h + 128 ≤ 256) (x0 : Vec Ideal S1x2048x1024 .bf16) (x1 : Vec Ideal S128x256 .bf16) (a : Fin 2048) (b : Fin 1024) :
    channels h hh x0 x1 (ix2 a b)
      = ∑ k : Fin 128, x0 (ix3 0 a ⟨b.val / 128 * 128 + k.val, by omega⟩) * x1 (ix2 k ⟨h + b.val % 128, by omega⟩) := rfl

theorem channels_at (h : ℕ) (hh : h + 128 ≤ 256) (x0 : Vec Ideal S1x2048x1024 .bf16) (x1 : Vec Ideal S128x256 .bf16)
    (o : ℕ) (ho : o + 128 ≤ 1024) (hd : o % 128 = 0) (a : Fin 2048) (b : Fin 128) :
    channels h hh x0 x1 (ix2 a ⟨o + b.val, by omega⟩)
      = ∑ k : Fin 128, x0 (ix3 0 a ⟨o + k.val, by omega⟩) * x1 (ix2 k ⟨h + b.val, by omega⟩) := by
  have e1 : (o + b.val) / 128 * 128 = o := by omega
  have e2 : (o + b.val) % 128 = b.val := by omega
  rw [channels_ix2]
  simp only [e1, e2]

/-- A tile's groups, each through its weight. -/
def mixed (f : FVec Ideal S512x1024 .bf16) (x4 : Vec Ideal S1x8x128x128 .bf16) (y : S1x512x1024.Idx) : EReal :=
  ∑ k : Fin 128, f (ix2 (y 1) ⟨(y 2).val / 128 * 128 + k.val, by have : (y 2).val < 1024 := (y 2).isLt; omega⟩)
    * x4 (ix4 0 ⟨(y 2).val / 128, by have : (y 2).val < 1024 := (y 2).isLt; omega⟩ k ⟨(y 2).val % 128, by omega⟩)

theorem mixed_ix3 (f : FVec Ideal S512x1024 .bf16) (x4 : Vec Ideal S1x8x128x128 .bf16) (a : Fin 512) (b : Fin 1024) :
    mixed f x4 (ix3 0 a b)
      = ∑ k : Fin 128, f (ix2 a ⟨b.val / 128 * 128 + k.val, by omega⟩)
          * x4 (ix4 0 ⟨b.val / 128, by omega⟩ k ⟨b.val % 128, by omega⟩) := rfl

theorem mixed_at (f : FVec Ideal S512x1024 .bf16) (x4 : Vec Ideal S1x8x128x128 .bf16) (g : Fin 8) (a : Fin 512) (b : Fin 128) :
    mixed f x4 (ix3 0 a ⟨128 * g.val + b.val, by omega⟩)
      = ∑ k : Fin 128, f (ix2 a ⟨128 * g.val + k.val, by omega⟩) * x4 (ix4 0 g k b) := by
  have e1 : (128 * g.val + b.val) / 128 = g.val := by omega
  have e2 : (128 * g.val + b.val) % 128 = b.val := by omega
  have e3 : g.val * 128 = 128 * g.val := Nat.mul_comm _ _
  rw [mixed_ix3]
  simp only [e1, e2, e3]

section Cases

variable (c : Dev nD) (i : grid0.Coords)
  (arg3 : Memref sig .tc .vmem S1x2048x1024 .bf16) (harg3 : arg3.IsWhole) (arg4 : Memref sig .tc .vmem S128x256 .bf16) (harg4 : arg4.IsWhole)
  (arg5 : Memref sig .tc .vmem S512x2048 .bf16) (harg5 : arg5.IsWhole) (arg6 : Memref sig .tc .vmem S512x2048 .bf16) (harg6 : arg6.IsWhole)
  (arg7 : Memref sig .tc .vmem S1x8x128x128 .bf16) (harg7 : arg7.IsWhole) (arg8 : Memref sig .tc .vmem S1x512x1024 .bf16) (harg8 : arg8.IsWhole)
  (arg9 : Memref sig .tc .vmem S2048x1024 .bf16) (harg9 : arg9.IsWhole) (arg10 : Memref sig .tc .vmem S2048x1024 .bf16) (harg10 : arg10.IsWhole)
  (x0 : Vec Ideal S1x2048x1024 .bf16) (x1 : Vec Ideal S128x256 .bf16) (x2 x3 : Vec Ideal S512x2048 .bf16) (x4 : Vec Ideal S1x8x128x128 .bf16)

/-- A load of a group of the channels. -/
abbrev loadU (o : ℕ) (inb : ∀ a, (![0, 0, o] : Fin 3 → ℕ) a + S1x2048x128.size a ≤ S1x2048x1024.size a) : Vec Ideal S1x2048x128 .bf16 :=
  View.readAt (Elt Ideal) arg3.view (Rect.unit (s := S1x2048x1024) ![0, 0, o] S1x2048x128.size inb).toLoadRect (harg3.unread x0)

/-- A load of the channel table. -/
abbrev loadC : Vec Ideal S128x256 .bf16 :=
  View.readAt (Elt Ideal) arg4.view (Rect.unit (s := S128x256) ![0, 0] S128x256.size inb_S128x256_S128x256_0_0).toLoadRect (harg4.unread x1)

/-- A load of a block of a position table. -/
abbrev loadP (arg : Memref sig .tc .vmem S512x2048 .bf16) (harg : arg.IsWhole) (x : Vec Ideal S512x2048 .bf16) : Vec Ideal S512x2048 .bf16 :=
  View.readAt (Elt Ideal) arg.view (Rect.unit (s := S512x2048) ![0, 0] S512x2048.size inb_S512x2048_S512x2048_0_0).toLoadRect (harg.unread x)

/-- A load of a group's weight. -/
abbrev loadW (g : ℕ) (inb : ∀ a, (![0, g, 0, 0] : Fin 4 → ℕ) a + S1x1x128x128.size a ≤ S1x8x128x128.size a) : Vec Ideal S1x1x128x128 .bf16 :=
  View.readAt (Elt Ideal) arg7.view (Rect.unit (s := S1x8x128x128) ![0, g, 0, 0] S1x1x128x128.size inb).toLoadRect (harg7.unread x4)

/-- A group's store into the first scratch. -/
abbrev leftPiece (o : ℕ) (inb : ∀ a, (![0, o] : Fin 2 → ℕ) a + S2048x128.size a ≤ S2048x1024.size a)
    (inb' : ∀ a, (![0, 0, o] : Fin 3 → ℕ) a + S1x2048x128.size a ≤ S1x2048x1024.size a) : View.Piece (Elt Ideal) S2048x1024 .bf16 :=
  ⟨Rect.unit (s := S2048x1024) ![0, o] S2048x128.size inb, k0_pay22 (F := Ideal) (loadU arg3 harg3 x0 o inb') (loadC arg4 harg4 x1)⟩

/-- A group's store into the second. -/
abbrev rightPiece (o : ℕ) (inb : ∀ a, (![0, o] : Fin 2 → ℕ) a + S2048x128.size a ≤ S2048x1024.size a)
    (inb' : ∀ a, (![0, 0, o] : Fin 3 → ℕ) a + S1x2048x128.size a ≤ S1x2048x1024.size a) : View.Piece (Elt Ideal) S2048x1024 .bf16 :=
  ⟨Rect.unit (s := S2048x1024) ![0, o] S2048x128.size inb, k0_pay23 (F := Ideal) (loadU arg3 harg3 x0 o inb') (loadC arg4 harg4 x1)⟩

/-- A group's store into the output. -/
abbrev outPiece (f : FVec Ideal S512x1024 .bf16) (g : ℕ) (o : ℕ) (hs : S512x1024.Slices ![0, o] S512x128)
    (inb : ∀ a, (![0, 0, o] : Fin 3 → ℕ) a + S1x512x128.size a ≤ S1x512x1024.size a)
    (inb' : ∀ a, (![0, g, 0, 0] : Fin 4 → ℕ) a + S1x1x128x128.size a ≤ S1x8x128x128.size a) : View.Piece (Elt Ideal) S1x512x1024 .bf16 :=
  ⟨Rect.unit (s := S1x512x1024) ![0, 0, o] S1x512x128.size inb, group o hs f (loadW arg7 harg7 x4 g inb')⟩

/-- The eight stores into the first scratch. -/
abbrev leftPieces : List (View.Piece (Elt Ideal) S2048x1024 .bf16) :=
  [leftPiece arg3 harg3 arg4 harg4 x0 x1 896 inb_S2048x1024_S2048x128_0_896 inb_S1x2048x1024_S1x2048x128_0_0_896,
   leftPiece arg3 harg3 arg4 harg4 x0 x1 768 inb_S2048x1024_S2048x128_0_768 inb_S1x2048x1024_S1x2048x128_0_0_768,
   leftPiece arg3 harg3 arg4 harg4 x0 x1 640 inb_S2048x1024_S2048x128_0_640 inb_S1x2048x1024_S1x2048x128_0_0_640,
   leftPiece arg3 harg3 arg4 harg4 x0 x1 512 inb_S2048x1024_S2048x128_0_512 inb_S1x2048x1024_S1x2048x128_0_0_512,
   leftPiece arg3 harg3 arg4 harg4 x0 x1 384 inb_S2048x1024_S2048x128_0_384 inb_S1x2048x1024_S1x2048x128_0_0_384,
   leftPiece arg3 harg3 arg4 harg4 x0 x1 256 inb_S2048x1024_S2048x128_0_256 inb_S1x2048x1024_S1x2048x128_0_0_256,
   leftPiece arg3 harg3 arg4 harg4 x0 x1 128 inb_S2048x1024_S2048x128_0_128 inb_S1x2048x1024_S1x2048x128_0_0_128,
   leftPiece arg3 harg3 arg4 harg4 x0 x1 0 inb_S2048x1024_S2048x128_0_0 inb_S1x2048x1024_S1x2048x128_0_0_0]

/-- The eight stores into the second. -/
abbrev rightPieces : List (View.Piece (Elt Ideal) S2048x1024 .bf16) :=
  [rightPiece arg3 harg3 arg4 harg4 x0 x1 896 inb_S2048x1024_S2048x128_0_896 inb_S1x2048x1024_S1x2048x128_0_0_896,
   rightPiece arg3 harg3 arg4 harg4 x0 x1 768 inb_S2048x1024_S2048x128_0_768 inb_S1x2048x1024_S1x2048x128_0_0_768,
   rightPiece arg3 harg3 arg4 harg4 x0 x1 640 inb_S2048x1024_S2048x128_0_640 inb_S1x2048x1024_S1x2048x128_0_0_640,
   rightPiece arg3 harg3 arg4 harg4 x0 x1 512 inb_S2048x1024_S2048x128_0_512 inb_S1x2048x1024_S1x2048x128_0_0_512,
   rightPiece arg3 harg3 arg4 harg4 x0 x1 384 inb_S2048x1024_S2048x128_0_384 inb_S1x2048x1024_S1x2048x128_0_0_384,
   rightPiece arg3 harg3 arg4 harg4 x0 x1 256 inb_S2048x1024_S2048x128_0_256 inb_S1x2048x1024_S1x2048x128_0_0_256,
   rightPiece arg3 harg3 arg4 harg4 x0 x1 128 inb_S2048x1024_S2048x128_0_128 inb_S1x2048x1024_S1x2048x128_0_0_128,
   rightPiece arg3 harg3 arg4 harg4 x0 x1 0 inb_S2048x1024_S2048x128_0_0 inb_S1x2048x1024_S1x2048x128_0_0_0]

/-- The eight stores into the output. -/
abbrev outPieces (f : FVec Ideal S512x1024 .bf16) : List (View.Piece (Elt Ideal) S1x512x1024 .bf16) :=
  [outPiece arg7 harg7 x4 f 7 896 slices_S512x1024_o0_896_S512x128 inb_S1x512x1024_S1x512x128_0_0_896 inb_S1x8x128x128_S1x1x128x128_0_7_0_0,
   outPiece arg7 harg7 x4 f 6 768 slices_S512x1024_o0_768_S512x128 inb_S1x512x1024_S1x512x128_0_0_768 inb_S1x8x128x128_S1x1x128x128_0_6_0_0,
   outPiece arg7 harg7 x4 f 5 640 slices_S512x1024_o0_640_S512x128 inb_S1x512x1024_S1x512x128_0_0_640 inb_S1x8x128x128_S1x1x128x128_0_5_0_0,
   outPiece arg7 harg7 x4 f 4 512 slices_S512x1024_o0_512_S512x128 inb_S1x512x1024_S1x512x128_0_0_512 inb_S1x8x128x128_S1x1x128x128_0_4_0_0,
   outPiece arg7 harg7 x4 f 3 384 slices_S512x1024_o0_384_S512x128 inb_S1x512x1024_S1x512x128_0_0_384 inb_S1x8x128x128_S1x1x128x128_0_3_0_0,
   outPiece arg7 harg7 x4 f 2 256 slices_S512x1024_o0_256_S512x128 inb_S1x512x1024_S1x512x128_0_0_256 inb_S1x8x128x128_S1x1x128x128_0_2_0_0,
   outPiece arg7 harg7 x4 f 1 128 slices_S512x1024_o0_128_S512x128 inb_S1x512x1024_S1x512x128_0_0_128 inb_S1x8x128x128_S1x1x128x128_0_1_0_0,
   outPiece arg7 harg7 x4 f 0 0 slices_S512x1024_o0_0_S512x128 inb_S1x512x1024_S1x512x128_0_0_0 inb_S1x8x128x128_S1x1x128x128_0_0_0_0]

/-- The tile's transform in case A, from what the scratches have just been given. -/
abbrev freshF : FVec Ideal S512x1024 .bf16 :=
  k0_pay30 (F := Ideal) (loadP arg5 harg5 x2)
    (arg9.view.readCov (leftPieces arg3 harg3 arg4 harg4 x0 x1) (Rect.unit (s := S2048x1024) ![0, 0] S2048x1024.size inb_S2048x1024_S2048x1024_0_0).toLoadRect)
    (loadP arg6 harg6 x3)
    (arg10.view.readCov (rightPieces arg3 harg3 arg4 harg4 x0 x1) (Rect.unit (s := S2048x1024) ![0, 0] S2048x1024.size inb_S2048x1024_S2048x1024_0_0).toLoadRect)

/-- The same in case B, from what the scratches were left with. -/
abbrev keptF (w v : Vec Ideal S2048x1024 .bf16) : FVec Ideal S512x1024 .bf16 :=
  k0_pay30 (F := Ideal) (loadP arg5 harg5 x2)
    (View.readAt (Elt Ideal) arg9.view (Rect.unit (s := S2048x1024) ![0, 0] S2048x1024.size inb_S2048x1024_S2048x1024_0_0).toLoadRect (harg9.unread w))
    (loadP arg6 harg6 x3)
    (View.readAt (Elt Ideal) arg10.view (Rect.unit (s := S2048x1024) ![0, 0] S2048x1024.size inb_S2048x1024_S2048x1024_0_0).toLoadRect (harg10.unread v))

/-- What case A's run leaves in the first scratch. -/
theorem left_pieces (hc : cond0_0 i) :
    (kernelRun0_A (F := Ideal) c i arg3 harg3 arg4 harg4 arg5 harg5 arg6 harg6 arg7 harg7 arg8 harg8 arg9 harg9 arg10 harg10 hc x0 x1 x2 x3 x4).2.1
      = leftPieces arg3 harg3 arg4 harg4 x0 x1 := by
  unfold kernelRun0_A
  rfl

/-- What it leaves in the second. -/
theorem right_pieces (hc : cond0_0 i) :
    (kernelRun0_A (F := Ideal) c i arg3 harg3 arg4 harg4 arg5 harg5 arg6 harg6 arg7 harg7 arg8 harg8 arg9 harg9 arg10 harg10 hc x0 x1 x2 x3 x4).2.2.1
      = rightPieces arg3 harg3 arg4 harg4 x0 x1 := by
  unfold kernelRun0_A
  rfl

/-- What it leaves in the output. -/
theorem out_piecesA (hc : cond0_0 i) :
    (kernelRun0_A (F := Ideal) c i arg3 harg3 arg4 harg4 arg5 harg5 arg6 harg6 arg7 harg7 arg8 harg8 arg9 harg9 arg10 harg10 hc x0 x1 x2 x3 x4).1
      = outPieces arg7 harg7 x4 (freshF arg3 harg3 arg4 harg4 arg5 harg5 arg6 harg6 arg9 arg10 x0 x1 x2 x3) := by
  unfold kernelRun0_A
  rfl

/-- What case B's run leaves in the output. -/
theorem out_piecesB (hc : ¬cond0_0 i) (w v : Vec Ideal S2048x1024 .bf16) :
    (kernelRun0_B (F := Ideal) c i arg3 harg3 arg4 harg4 arg5 harg5 arg6 harg6 arg7 harg7 arg8 harg8 arg9 harg9 arg10 harg10 hc x0 x1 x2 x3 x4 w v).1
      = outPieces arg7 harg7 x4 (keptF arg5 harg5 arg6 harg6 arg9 harg9 arg10 harg10 x2 x3 w v) := by
  unfold kernelRun0_B
  rfl

/-- A load of a group, at an index. -/
theorem loadU_at (o : ℕ) (ho : o + 128 ≤ 1024) (inb) (a : Fin 2048) (k : Fin 128) :
    loadU arg3 harg3 x0 o inb (ix3 0 a k) = x0 (ix3 0 a ⟨o + k.val, by omega⟩) :=
  readBlock_at harg3 x0 _ (ix3 0 a k) (ix3 0 a ⟨o + k.val, by omega⟩) (fun d => by
    match d with
    | ⟨0, _⟩ => rfl
    | ⟨1, _⟩ => exact (Nat.zero_add _).symm
    | ⟨2, _⟩ => rfl)

/-- A load of a group's weight, at an index. -/
theorem loadW_at (g : Fin 8) (inb) (k b : Fin 128) : loadW arg7 harg7 x4 g.val inb (ix4 0 0 k b) = x4 (ix4 0 g k b) :=
  readBlock_at harg7 x4 _ (ix4 0 0 k b) (ix4 0 g k b) (fun d => by
    match d with
    | ⟨0, _⟩ => rfl
    | ⟨1, _⟩ => rfl
    | ⟨2, _⟩ => exact (Nat.zero_add _).symm
    | ⟨3, _⟩ => exact (Nat.zero_add _).symm)

theorem loadC_eq : loadC arg4 harg4 x1 = x1 := readWhole harg4 x1 _ (fun a => by fin_cases a <;> rfl)

theorem loadP_eq (arg : Memref sig .tc .vmem S512x2048 .bf16) (harg : arg.IsWhole) (x : Vec Ideal S512x2048 .bf16) :
    loadP arg harg x = x := readWhole harg x _ (fun a => by fin_cases a <;> rfl)

/-- A store into the first scratch is a part of the transformed channels. -/
theorem leftPiece_at (o : ℕ) (ho : o + 128 ≤ 1024) (hd : o % 128 = 0) (inb) (inb') (y : S2048x128.Idx) :
    (leftPiece arg3 harg3 arg4 harg4 x0 x1 o inb inb').2 y
      = channels 0 (by decide) x0 x1 ((Rect.unit (s := S2048x1024) ![0, o] S2048x128.size inb).emb y) := by
  idx_vars y
  refine (left_at _ _ y0 y1).trans ?_
  rw [placed o ho inb y0 y1, channels_at 0 _ x0 x1 o ho hd y0 y1, loadC_eq]
  refine Finset.sum_congr rfl fun k _ => congrArg₂ (· * ·) (loadU_at arg3 harg3 x0 o ho inb' y0 k) ?_
  simp only [Nat.zero_add]

/-- A store into the second likewise. -/
theorem rightPiece_at (o : ℕ) (ho : o + 128 ≤ 1024) (hd : o % 128 = 0) (inb) (inb') (y : S2048x128.Idx) :
    (rightPiece arg3 harg3 arg4 harg4 x0 x1 o inb inb').2 y
      = channels 128 (by decide) x0 x1 ((Rect.unit (s := S2048x1024) ![0, o] S2048x128.size inb).emb y) := by
  idx_vars y
  refine (right_at _ _ y0 y1).trans ?_
  rw [placed o ho inb y0 y1, channels_at 128 _ x0 x1 o ho hd y0 y1, loadC_eq]
  exact Finset.sum_congr rfl fun k _ => congrArg (· * _) (loadU_at arg3 harg3 x0 o ho inb' y0 k)

/-- A store into the output is a part of the mixed tile. -/
theorem outPiece_at (f : FVec Ideal S512x1024 .bf16) (g : Fin 8) (hs) (inb) (inb') (y : S1x512x128.Idx) :
    (outPiece arg7 harg7 x4 f g.val (128 * g.val) hs inb inb').2 y
      = mixed f x4 ((Rect.unit (s := S1x512x1024) ![0, 0, 128 * g.val] S1x512x128.size inb).emb y) := by
  idx_vars y
  obtain rfl : y0 = 0 := Subsingleton.elim _ _
  refine (group_at (128 * g.val) (by omega) hs f _ y1 y2).trans ?_
  rw [placed_out (128 * g.val) (by omega) inb y1 y2, mixed_at]
  exact Finset.sum_congr rfl fun k _ => congrArg (_ * ·) (loadW_at arg7 harg7 x4 g inb' k y2)

include c arg5 harg5 arg6 harg6 arg7 harg7 arg8 harg8 arg9 harg9 arg10 harg10 x2 x3 x4 in
/-- What the first scratch holds once case A has filled it. -/
theorem left_canon (hc : cond0_0 i) (y : S2048x1024.Idx) :
    View.canon (leftPieces arg3 harg3 arg4 harg4 x0 x1) y = channels 0 (by decide) x0 x1 y := by
  have cov := scover0_A_0 (F := Ideal) c i arg3 harg3 arg4 harg4 arg5 harg5 arg6 harg6 arg7 harg7 arg8 harg8 arg9 harg9 arg10 harg10 hc x0 x1 x2 x3 x4 y
  rw [left_pieces] at cov
  refine View.canon_apply_of_pieces (Val := Elt Ideal) (e := .bf16) (channels 0 (by decide) x0 x1) _ ?_ y cov
  exact View.PiecesOf.mem (Val := Elt Ideal) (e := .bf16)
    ⟨leftPiece_at arg3 harg3 arg4 harg4 x0 x1 896 (by decide) (by decide) _ _, leftPiece_at arg3 harg3 arg4 harg4 x0 x1 768 (by decide) (by decide) _ _,
     leftPiece_at arg3 harg3 arg4 harg4 x0 x1 640 (by decide) (by decide) _ _, leftPiece_at arg3 harg3 arg4 harg4 x0 x1 512 (by decide) (by decide) _ _,
     leftPiece_at arg3 harg3 arg4 harg4 x0 x1 384 (by decide) (by decide) _ _, leftPiece_at arg3 harg3 arg4 harg4 x0 x1 256 (by decide) (by decide) _ _,
     leftPiece_at arg3 harg3 arg4 harg4 x0 x1 128 (by decide) (by decide) _ _, leftPiece_at arg3 harg3 arg4 harg4 x0 x1 0 (by decide) (by decide) _ _, trivial⟩

include c arg5 harg5 arg6 harg6 arg7 harg7 arg8 harg8 arg9 harg9 arg10 harg10 x2 x3 x4 in
/-- What the second holds. -/
theorem right_canon (hc : cond0_0 i) (y : S2048x1024.Idx) :
    View.canon (rightPieces arg3 harg3 arg4 harg4 x0 x1) y = channels 128 (by decide) x0 x1 y := by
  have cov := scover0_A_1 (F := Ideal) c i arg3 harg3 arg4 harg4 arg5 harg5 arg6 harg6 arg7 harg7 arg8 harg8 arg9 harg9 arg10 harg10 hc x0 x1 x2 x3 x4 y
  rw [right_pieces] at cov
  refine View.canon_apply_of_pieces (Val := Elt Ideal) (e := .bf16) (channels 128 (by decide) x0 x1) _ ?_ y cov
  exact View.PiecesOf.mem (Val := Elt Ideal) (e := .bf16)
    ⟨rightPiece_at arg3 harg3 arg4 harg4 x0 x1 896 (by decide) (by decide) _ _, rightPiece_at arg3 harg3 arg4 harg4 x0 x1 768 (by decide) (by decide) _ _,
     rightPiece_at arg3 harg3 arg4 harg4 x0 x1 640 (by decide) (by decide) _ _, rightPiece_at arg3 harg3 arg4 harg4 x0 x1 512 (by decide) (by decide) _ _,
     rightPiece_at arg3 harg3 arg4 harg4 x0 x1 384 (by decide) (by decide) _ _, rightPiece_at arg3 harg3 arg4 harg4 x0 x1 256 (by decide) (by decide) _ _,
     rightPiece_at arg3 harg3 arg4 harg4 x0 x1 128 (by decide) (by decide) _ _, rightPiece_at arg3 harg3 arg4 harg4 x0 x1 0 (by decide) (by decide) _ _, trivial⟩

/-- The stores into the output are parts of the mixed tile. -/
theorem outPieces_of (f : FVec Ideal S512x1024 .bf16) :
    View.PiecesOf (Val := Elt Ideal) (e := .bf16) (mixed f x4) (outPieces arg7 harg7 x4 f) :=
  ⟨outPiece_at arg7 harg7 x4 f 7 _ _ _, outPiece_at arg7 harg7 x4 f 6 _ _ _, outPiece_at arg7 harg7 x4 f 5 _ _ _, outPiece_at arg7 harg7 x4 f 4 _ _ _,
   outPiece_at arg7 harg7 x4 f 3 _ _ _, outPiece_at arg7 harg7 x4 f 2 _ _ _, outPiece_at arg7 harg7 x4 f 1 _ _ _, outPiece_at arg7 harg7 x4 f 0 _ _ _, trivial⟩

/-- The first scratch after a point that fills it. -/
theorem leftA (hc : cond0_0 i) :
    sout0_A_0 (F := Ideal) c i arg3 harg3 arg4 harg4 arg5 harg5 arg6 harg6 arg7 harg7 arg8 harg8 arg9 harg9 arg10 harg10 hc x0 x1 x2 x3 x4
      = channels 0 (by decide) x0 x1 := by
  funext y
  unfold sout0_A_0
  rw [View.read_writes_junk_eq_canon, left_pieces]
  exact left_canon c i arg3 harg3 arg4 harg4 arg5 harg5 arg6 harg6 arg7 harg7 arg8 harg8 arg9 harg9 arg10 harg10 x0 x1 x2 x3 x4 hc y

/-- The second. -/
theorem rightA (hc : cond0_0 i) :
    sout0_A_1 (F := Ideal) c i arg3 harg3 arg4 harg4 arg5 harg5 arg6 harg6 arg7 harg7 arg8 harg8 arg9 harg9 arg10 harg10 hc x0 x1 x2 x3 x4
      = channels 128 (by decide) x0 x1 := by
  funext y
  unfold sout0_A_1
  rw [View.read_writes_junk_eq_canon, right_pieces]
  exact right_canon c i arg3 harg3 arg4 harg4 arg5 harg5 arg6 harg6 arg7 harg7 arg8 harg8 arg9 harg9 arg10 harg10 x0 x1 x2 x3 x4 hc y

include c harg5 harg6 arg7 harg7 arg8 harg8 harg9 harg10 x4 in
/-- Case A's transform, from what the scratches hold. -/
theorem freshF_eq (hc : cond0_0 i) : freshF arg3 harg3 arg4 harg4 arg5 harg5 arg6 harg6 arg9 arg10 x0 x1 x2 x3
    = k0_pay30 (F := Ideal) x2 (channels 0 (by decide) x0 x1) x3 (channels 128 (by decide) x0 x1) := by
  have e1 : arg9.view.readCov (leftPieces arg3 harg3 arg4 harg4 x0 x1)
      (Rect.unit (s := S2048x1024) ![0, 0] S2048x1024.size inb_S2048x1024_S2048x1024_0_0).toLoadRect = channels 0 (by decide) x0 x1 := funext fun y =>
    (readCov_at arg9.view _ _ y y (fun a => by fin_cases a <;> simp)).trans
      (left_canon c i arg3 harg3 arg4 harg4 arg5 harg5 arg6 harg6 arg7 harg7 arg8 harg8 arg9 harg9 arg10 harg10 x0 x1 x2 x3 x4 hc y)
  have e2 : arg10.view.readCov (rightPieces arg3 harg3 arg4 harg4 x0 x1)
      (Rect.unit (s := S2048x1024) ![0, 0] S2048x1024.size inb_S2048x1024_S2048x1024_0_0).toLoadRect = channels 128 (by decide) x0 x1 := funext fun y =>
    (readCov_at arg10.view _ _ y y (fun a => by fin_cases a <;> simp)).trans
      (right_canon c i arg3 harg3 arg4 harg4 arg5 harg5 arg6 harg6 arg7 harg7 arg8 harg8 arg9 harg9 arg10 harg10 x0 x1 x2 x3 x4 hc y)
  unfold freshF
  rw [e1, e2, loadP_eq, loadP_eq]

/-- Case B's. -/
theorem keptF_eq (w v : Vec Ideal S2048x1024 .bf16) :
    keptF arg5 harg5 arg6 harg6 arg9 harg9 arg10 harg10 x2 x3 w v = k0_pay30 (F := Ideal) x2 w x3 v := by
  unfold keptF
  rw [loadP_eq, loadP_eq, readWhole harg9 w _ (fun a => by fin_cases a <;> rfl), readWhole harg10 v _ (fun a => by fin_cases a <;> rfl)]

/-- The output block of a point that fills the scratches. -/
theorem outA_at (hc : cond0_0 i) (y : S1x512x1024.Idx) :
    out0_A_5 (F := Ideal) c i arg3 harg3 arg4 harg4 arg5 harg5 arg6 harg6 arg7 harg7 arg8 harg8 arg9 harg9 arg10 harg10 hc x0 x1 x2 x3 x4 y
      = mixed (k0_pay30 (F := Ideal) x2 (channels 0 (by decide) x0 x1) x3 (channels 128 (by decide) x0 x1)) x4 y := by
  unfold out0_A_5
  have cov := cover0_A_5 (F := Ideal) c i arg3 harg3 arg4 harg4 arg5 harg5 arg6 harg6 arg7 harg7 arg8 harg8 arg9 harg9 arg10 harg10 hc x0 x1 x2 x3 x4 y
  have e := freshF_eq c i arg3 harg3 arg4 harg4 arg5 harg5 arg6 harg6 arg7 harg7 arg8 harg8 arg9 harg9 arg10 harg10 x0 x1 x2 x3 x4 hc
  rw [out_piecesA, e] at cov
  rw [View.read_writes_junk_eq_canon, out_piecesA, e]
  exact View.canon_apply_of_pieces (Val := Elt Ideal) (e := .bf16) (mixed _ x4) _ (outPieces_of arg7 harg7 x4 _).mem y cov

/-- The output block of a point that finds them filled. -/
theorem outB_at (hc : ¬cond0_0 i) (w v : Vec Ideal S2048x1024 .bf16) (y : S1x512x1024.Idx) :
    out0_B_5 (F := Ideal) c i arg3 harg3 arg4 harg4 arg5 harg5 arg6 harg6 arg7 harg7 arg8 harg8 arg9 harg9 arg10 harg10 hc x0 x1 x2 x3 x4 w v y
      = mixed (k0_pay30 (F := Ideal) x2 w x3 v) x4 y := by
  unfold out0_B_5
  have cov := cover0_B_5 (F := Ideal) c i arg3 harg3 arg4 harg4 arg5 harg5 arg6 harg6 arg7 harg7 arg8 harg8 arg9 harg9 arg10 harg10 hc x0 x1 x2 x3 x4 w v y
  have e := keptF_eq arg5 harg5 arg6 harg6 arg9 harg9 arg10 harg10 x2 x3 w v
  rw [out_piecesB, e] at cov
  rw [View.read_writes_junk_eq_canon, out_piecesB, e]
  exact View.canon_apply_of_pieces (Val := Elt Ideal) (e := .bf16) (mixed _ x4) _ (outPieces_of arg7 harg7 x4 _).mem y cov

end Cases

end Cert.FourIdeal.Fourier

end
-- ==== Proof.Fourier.Tables.lean ====
/-
  THE FOURIER MIXING'S TABLES: that the cosines and the sines the kernel is given are the reference's.
-/
module

public import proofs.«01_k».proof.Proof.Gen.FourIdeal.Value
public import proofs.«01_k».proof.Proof.Gen.FourRefIdeal.Read
public import Idealize.ShloMosaic.Lib.Pipeline.ValueKit
public import Idealize.ShloMosaic.Lib.Pointwise

@[expose] public section

set_option maxRecDepth 16384

noncomputable section

namespace Cert.FourIdeal.Fourier

open Idealize.ShloMosaic Idealize.ShloMosaic.TcCoe Idealize.SL.Sem
open Cert.FourIdeal Cert.FourIdeal.Gen
open Cert.FourRefIdeal.Read

variable (m : (ℓ : Loc nD τ sig) → Buf (Elt Ideal) ℓ) (c : Dev nD)

/-- The kernel's cosines of positions are the reference's. -/
theorem position_cosines : V m c main_v27 = val_main_v13 (F := Ideal) := by
  rfl

/-- The kernel's sines of positions are the reference's. -/
theorem position_sines : V m c main_v28 = val_main_v14 (F := Ideal) := by
  rfl

/-- The host's operations before it joins the channel tables. -/
abbrev before : List (HloOp τ sig (Elt Ideal)) :=
  List.flatten [hostOps0, hostOps0_1, hostOps0_2, hostOps0_3, hostOps0_4.take 6]

/-- The buffers when it joins them. -/
def entering (b : Ref sig .tc) : Buf (Elt Ideal) ((c : Thread nD τ).loc b) := StableHlo.after before (fun b => m (c, b)) b

/-- The last four operations, from any contents: the cosines and the sines side by side. -/
theorem joined_of (W : Valuation τ sig (Elt Ideal)) :
    StableHlo.after (hostOps0_4.drop 6) W (Proc.tc.devRef main_v26)
      = concatenate S128x256 1 [⟨S128x128, W (Proc.tc.devRef main_v23)⟩, ⟨S128x128, W (Proc.tc.devRef main_v24)⟩]
          concatenates_S128x128_S128x128_S128x256_d1 := by
  rfl

/-- The channel table is the cosines and the sines held before the join, side by side. -/
theorem table_split : V m c main_v26
    = concatenate S128x256 1 [⟨S128x128, entering m c main_v23⟩, ⟨S128x128, entering m c main_v24⟩]
        concatenates_S128x128_S128x128_S128x256_d1 := by
  refine Eq.trans ?_ (joined_of (StableHlo.after before (fun b => m (c, b))))
  rfl

/-- The cosines of channels are the reference's. -/
theorem entering_cosines : entering m c main_v23 = val_main_v25 (F := Ideal) := by
  rfl

/-- The sines of channels are the reference's. -/
theorem entering_sines : entering m c main_v24 = val_main_v26 (F := Ideal) := by
  rfl

/-- The kernel's channel table is the reference's two, side by side. -/
theorem channel_table : V m c main_v26
    = concatenate S128x256 1 [⟨S128x128, val_main_v25 (F := Ideal)⟩, ⟨S128x128, val_main_v26 (F := Ideal)⟩]
        concatenates_S128x128_S128x128_S128x256_d1 := by
  rw [table_split, entering_cosines, entering_sines]

/-- Its left half. -/
theorem channel_left (a b : Fin 128) : V m c main_v26 (ix2 a ⟨b.val, by omega⟩) = val_main_v25 (F := Ideal) (ix2 a b) := by
  rw [channel_table]
  generalize val_main_v25 (F := Ideal) = p
  generalize val_main_v26 (F := Ideal) = q
  pointwise []

/-- Its right half. -/
theorem channel_right (a b : Fin 128) : V m c main_v26 (ix2 a ⟨128 + b.val, by omega⟩) = val_main_v26 (F := Ideal) (ix2 a b) := by
  rw [channel_table]
  generalize val_main_v25 (F := Ideal) = p
  generalize val_main_v26 (F := Ideal) = q
  pointwise []

end Cert.FourIdeal.Fourier

end
-- ==== Proof.Fourier.Reference.lean ====
/-
  THE FOURIER MIXING, as sums: the real part of the two-dimensional transform of each group, scaled, through the group's
  weight of the last layer. That the reference computes it.
-/
module

public import proofs.«01_k».proof.Proof.Gen.FourRefIdeal.Read
public import Idealize.ShloMosaic.Lib.Pipeline.ValueKit
public import Idealize.ShloMosaic.Lib.Pointwise

@[expose] public section

set_option maxRecDepth 16384

noncomputable section

namespace Cert.FourIdeal.Fourier

open Idealize.ShloMosaic Idealize.ShloMosaic.TcCoe Idealize.SL.Sem
open Cert.FourRefIdeal.Read

/-- The projection's rows, at (sequence, token, channel). -/
abbrev Rows : Type := (⟨3, ![8, 2048, 5120]⟩ : Shape).Idx → EReal

/-- The stacked weight, at (layer, group, row, column). -/
abbrev Weights : Type := (⟨4, ![2, 16, 128, 128]⟩ : Shape).Idx → EReal

/-- The cosine of positions `k` and `s`. -/
def cosP (k s : Fin 2048) : EReal := val_main_v13 (F := Ideal) (ix2 k s)

/-- The sine of positions `k` and `s`. -/
def sinP (k s : Fin 2048) : EReal := val_main_v14 (F := Ideal) (ix2 k s)

/-- The cosine of channels `k` and `d`. -/
def cosC (k d : Fin 128) : EReal := val_main_v25 (F := Ideal) (ix2 k d)

/-- The sine of channels `k` and `d`. -/
def sinC (k d : Fin 128) : EReal := val_main_v26 (F := Ideal) (ix2 k d)

variable (X : Rows) (W : Weights)

/-- Token `s`'s group `g` of sequence `b`, transformed along its channels by a table. -/
def spectrum (T : Fin 128 → Fin 128 → EReal) (b : Fin 8) (s : Fin 2048) (g : Fin 16) (d : Fin 128) : EReal :=
  ∑ k : Fin 128, X (ix3 b s ⟨3072 + (g.val * 128 + k.val), by omega⟩) * T k d

/-- The real part of the transform along the positions, scaled. -/
def realPart (b : Fin 8) (n : Fin 2048) (g : Fin 16) (d : Fin 128) : EReal :=
  (∑ s : Fin 2048, cosP n s * spectrum X cosC b s g d - ∑ s : Fin 2048, sinP n s * spectrum X sinC b s g d)
    * Ideal.ofBits .f32 0x3B000000#32

/-- Group `g` through its weight, at column `d`. -/
def channel (b : Fin 8) (n : Fin 2048) (g : Fin 16) (d : Fin 128) : EReal :=
  ∑ k : Fin 128, realPart X b n g k * W (ix4 1 g k d)

/-- The mixing, as an array. -/
def result (y : (⟨3, ![8, 2048, 2048]⟩ : Shape).Idx) : EReal :=
  channel X W (y 0) (y 1) ⟨(y 2).val / 128, by have : (y 2).val < 2048 := (y 2).isLt; omega⟩ ⟨(y 2).val % 128, by omega⟩

theorem result_ix3 (b : Fin 8) (n d : Fin 2048) :
    result X W (ix3 b n d) = channel X W b n ⟨d.val / 128, by omega⟩ ⟨d.val % 128, by omega⟩ := rfl

theorem reference_left (b : Fin 8) (s : Fin 2048) (g : Fin 16) (d : Fin 128) :
    val_main_v27 (F := Ideal) X (ix4 b s g d) = spectrum X cosC b s g d := by
  unfold spectrum cosC
  rw [val_main_v27_apply]
  generalize val_main_v25 (F := Ideal) = T
  pointwise [val_main_v2, val_main_v1, val_main_v0]
  refine Finset.sum_congr rfl fun k _ => congrArg (fun i => _ * T i) (funext fun a => ?_)
  match a with
  | ⟨0, _⟩ => rfl
  | ⟨1, _⟩ => rfl

theorem reference_right (b : Fin 8) (s : Fin 2048) (g : Fin 16) (d : Fin 128) :
    val_main_v28 (F := Ideal) X (ix4 b s g d) = spectrum X sinC b s g d := by
  unfold spectrum sinC
  rw [val_main_v28_apply]
  generalize val_main_v26 (F := Ideal) = T
  pointwise [val_main_v2, val_main_v1, val_main_v0]
  refine Finset.sum_congr rfl fun k _ => congrArg (fun i => _ * T i) (funext fun a => ?_)
  match a with
  | ⟨0, _⟩ => rfl
  | ⟨1, _⟩ => rfl

theorem reference_cos (b : Fin 8) (n : Fin 2048) (g : Fin 16) (d : Fin 128) :
    val_main_v30 (F := Ideal) X (ix4 b n g d) = ∑ s : Fin 2048, cosP n s * spectrum X cosC b s g d := by
  rw [val_main_v30_apply, val_main_v29_apply]
  refine Finset.sum_congr rfl fun s _ => (mul_comm _ _).trans (congrArg₂ (· * ·) ?_ ?_)
  · refine congrArg (val_main_v13 (F := Ideal)) (funext fun a => ?_)
    match a with
    | ⟨0, _⟩ => rfl
    | ⟨1, _⟩ => rfl
  · refine Eq.trans (congrArg (val_main_v27 (F := Ideal) X) (funext fun a => ?_)) (reference_left X b s g d)
    match a with
    | ⟨0, _⟩ => rfl
    | ⟨1, _⟩ => rfl
    | ⟨2, _⟩ => rfl
    | ⟨3, _⟩ => rfl

theorem reference_sin (b : Fin 8) (n : Fin 2048) (g : Fin 16) (d : Fin 128) :
    val_main_v32 (F := Ideal) X (ix4 b n g d) = ∑ s : Fin 2048, sinP n s * spectrum X sinC b s g d := by
  rw [val_main_v32_apply, val_main_v31_apply]
  refine Finset.sum_congr rfl fun s _ => (mul_comm _ _).trans (congrArg₂ (· * ·) ?_ ?_)
  · refine congrArg (val_main_v14 (F := Ideal)) (funext fun a => ?_)
    match a with
    | ⟨0, _⟩ => rfl
    | ⟨1, _⟩ => rfl
  · refine Eq.trans (congrArg (val_main_v28 (F := Ideal) X) (funext fun a => ?_)) (reference_right X b s g d)
    match a with
    | ⟨0, _⟩ => rfl
    | ⟨1, _⟩ => rfl
    | ⟨2, _⟩ => rfl
    | ⟨3, _⟩ => rfl

theorem reference_real (b : Fin 8) (n : Fin 2048) (g : Fin 16) (d : Fin 128) :
    val_main_v35 (F := Ideal) X (ix4 b n g d) = realPart X b n g d := by
  unfold realPart
  rw [← reference_cos, ← reference_sin]
  pointwise [val_main_v35, val_main_v34, val_main_v33, val_main_cst_2]

/-- THE REFERENCE'S RESULT. -/
theorem reference_eq : val_main_v41 (F := Ideal) X W = result X W := by
  funext y
  idx_vars y
  rw [result_ix3]
  unfold channel
  simp only [← reference_real]
  pointwise [val_main_v41, val_main_v40, val_main_v39, val_main_v38, val_main_v37, val_main_v36]
  exact Finset.sum_congr rfl fun k _ => mul_comm _ _

end Cert.FourIdeal.Fourier

end
-- ==== Proof.Fourier.Mix.lean ====
/-
  THE FOURIER MIXING: what the kernel's array ends holding.
-/
module

public import proofs.«01_k».proof.Proof.Fourier.Tile
public import proofs.«01_k».proof.Proof.Fourier.Tables
public import proofs.«01_k».proof.Proof.Fourier.Reference

@[expose] public section

set_option maxRecDepth 16384

noncomputable section

namespace Cert.FourIdeal.Fourier

open Idealize.ShloMosaic Idealize.ShloMosaic.TcCoe Idealize.SL.Sem
open Cert.FourIdeal Cert.FourIdeal.Gen

variable (m : (ℓ : Loc nD τ sig) → Buf (Elt Ideal) ℓ) (c : Dev nD)

/-- The block index of each window at a grid point: sequence `t / 8`, channel block `t / 4 % 2`, row block `t % 4`. -/
theorem idx : ∀ t : Fin cfg0.N, win0_0.index t = ![t.val / 8, 0, 3 + t.val / 4 % 2] ∧ win0_1.index t = ![0, 0]
    ∧ win0_2.index t = ![t.val % 4, 0] ∧ win0_3.index t = ![t.val % 4, 0] ∧ win0_4.index t = ![1, t.val / 4 % 2, 0, 0]
    ∧ win0_5.index t = ![t.val / 8, t.val % 4, t.val / 4 % 2] :=
  (by decide +kernel : ∀ t : Fin grid0.N, _)

/-- The projection's rows. -/
abbrev rows : Rows := m ((c : Thread nD τ).loc main_arg0)

/-- The stacked weight. -/
abbrev weights : Weights := m ((c : Thread nD τ).loc main_arg1)

/-- A point's channels are the array's. -/
theorem rows_block (t : Fin cfg0.N) (ht : t.val < 64) (a : Fin 2048) (k : Fin 1024) :
    iblk m c 0 t (ix3 0 a k) = rows m c (ix3 ⟨t.val / 8, by omega⟩ a ⟨(3 + t.val / 4 % 2) * 1024 + k.val, by omega⟩) := by
  blk_ext [iblk, V, (idx t).1]

/-- A point's channel table is the whole table. -/
theorem channel_block (t : Fin cfg0.N) (a : Fin 128) (b : Fin 256) : iblk m c 1 t (ix2 a b) = V m c main_v26 (ix2 a b) := by
  blk_ext [iblk, (idx t).2.1]

/-- A point's cosines of positions. -/
theorem cosines_block (t : Fin cfg0.N) (a : Fin 512) (s : Fin 2048) :
    iblk m c 2 t (ix2 a s) = cosP ⟨t.val % 4 * 512 + a.val, by omega⟩ s := by
  unfold cosP
  rw [← position_cosines m c]
  blk_ext [iblk, (idx t).2.2.1]

/-- A point's sines of positions. -/
theorem sines_block (t : Fin cfg0.N) (a : Fin 512) (s : Fin 2048) :
    iblk m c 3 t (ix2 a s) = sinP ⟨t.val % 4 * 512 + a.val, by omega⟩ s := by
  unfold sinP
  rw [← position_sines m c]
  blk_ext [iblk, (idx t).2.2.2.1]

/-- The host's cast of the weight. -/
theorem cast_weight : V m c main_v0 = weights m c := by
  rfl

/-- A point's weights are the last layer's. -/
theorem weight_block (t : Fin cfg0.N) (g : Fin 8) (k b : Fin 128) :
    iblk m c 4 t (ix4 0 g k b) = weights m c (ix4 1 ⟨t.val / 4 % 2 * 8 + g.val, by omega⟩ k b) := by
  rw [← cast_weight m c]
  blk_ext [iblk, (idx t).2.2.2.2.1]

/-- The channels of block `q % 2` of sequence `q / 2`, transformed by a table. -/
def transformed (T : Fin 128 → Fin 128 → EReal) (q : ℕ) (hq : q < 16) (a : Fin 2048) (b : Fin 1024) : EReal :=
  spectrum (rows m c) T ⟨q / 2, by omega⟩ a ⟨q % 2 * 8 + b.val / 128, by omega⟩ ⟨b.val % 128, by omega⟩

/-- What a point's fill leaves in a scratch, whichever half of the channel table it uses. -/
theorem fill_at (h : ℕ) (hh : h + 128 ≤ 256) (T : Fin 128 → Fin 128 → EReal)
    (hT : ∀ k d : Fin 128, V m c main_v26 (ix2 k ⟨h + d.val, by omega⟩) = T k d)
    (t : Fin cfg0.N) (ht : t.val < 64) (a : Fin 2048) (b : Fin 1024) :
    channels h hh (iblk m c 0 t) (iblk m c 1 t) (ix2 a b) = transformed m c T (t.val / 4) (by omega) a b := by
  unfold transformed spectrum
  refine (channels_ix2 h hh _ _ a b).trans (Finset.sum_congr rfl fun k _ => congrArg₂ (· * ·) ((rows_block m c t ht a _).trans ?_)
    ((channel_block m c t k _).trans (hT k ⟨b.val % 128, by omega⟩)))
  refine congrArg (rows m c) (congrArg₂ (fun p q => ix3 p a q) (Fin.ext ?_) (Fin.ext ?_))
  · show t.val / 8 = t.val / 4 / 2
    omega
  · show (3 + t.val / 4 % 2) * 1024 + (b.val / 128 * 128 + k.val) = 3072 + ((t.val / 4 % 2 * 8 + b.val / 128) * 128 + k.val)
    omega

theorem left_table (k d : Fin 128) : V m c main_v26 (ix2 k ⟨0 + d.val, by omega⟩) = cosC k d := by
  have e : (⟨0 + d.val, by omega⟩ : Fin 256) = ⟨d.val, by omega⟩ := Fin.ext (Nat.zero_add _)
  rw [e]
  exact channel_left m c k d

theorem right_table (k d : Fin 128) : V m c main_v26 (ix2 k ⟨128 + d.val, by omega⟩) = sinC k d := channel_right m c k d

/-- At a point that fills the scratches they hold the transformed channels of its block. -/
theorem filled_at (n : ℕ) (hn : n < cfg0.N) (hn' : n < 64) (h0 : n % 4 = 0) (a : Fin 2048) (b : Fin 1024) :
    (outsAt0 m c n hn).2.1 (ix2 a b) = transformed m c cosC (n / 4) (by omega) a b
      ∧ (outsAt0 m c n hn).2.2 (ix2 a b) = transformed m c sinC (n / 4) (by omega) a b := by
  rw [outsAt0_A m c ⟨n, hn⟩ h0]
  dsimp only
  rw [leftA, rightA]
  exact ⟨fill_at m c 0 _ cosC (left_table m c) ⟨n, hn⟩ hn' a b, fill_at m c 128 _ sinC (right_table m c) ⟨n, hn⟩ hn' a b⟩

/-- So they do after every point of the block. -/
theorem scratch_at (n : ℕ) (hn : n < cfg0.N) (hn' : n < 64) (a : Fin 2048) (b : Fin 1024) :
    (outsAt0 m c n hn).2.1 (ix2 a b) = transformed m c cosC (n / 4) (by omega) a b
      ∧ (outsAt0 m c n hn).2.2 (ix2 a b) = transformed m c sinC (n / 4) (by omega) a b := by
  induction n with
  | zero => exact filled_at m c 0 hn hn' rfl a b
  | succ n ih =>
    by_cases h0 : (n + 1) % 4 = 0
    · exact filled_at m c (n + 1) hn hn' h0 a b
    · rw [outsAt0_B m c ⟨n + 1, hn⟩ h0]
      have e : n / 4 = (n + 1) / 4 := by omega
      have old := ih (Nat.lt_of_succ_lt hn) (by omega)
      simp only [e] at old
      exact old

/-- A tile's transform from scratches that hold the transformed channels of its block. -/
theorem tile_real (t : Fin cfg0.N) (ht : t.val < 64) (w v : Vec Ideal S2048x1024 .bf16)
    (hw : ∀ a b, w (ix2 a b) = transformed m c cosC (t.val / 4) (by omega) a b)
    (hv : ∀ a b, v (ix2 a b) = transformed m c sinC (t.val / 4) (by omega) a b) (a : Fin 512) (b : Fin 1024) :
    k0_pay30 (F := Ideal) (iblk m c 2 t) w (iblk m c 3 t) v (ix2 a b)
      = realPart (rows m c) ⟨t.val / 4 / 2, by omega⟩ ⟨t.val % 4 * 512 + a.val, by omega⟩ ⟨t.val / 4 % 2 * 8 + b.val / 128, by omega⟩
          ⟨b.val % 128, by omega⟩ := by
  rw [real_at]
  simp only [hw, hv, cosines_block m c t, sines_block m c t]
  rfl

/-- The kernel's result. -/
def whole : (⟨3, ![8, 2048, 2048]⟩ : Shape).Idx → EReal := result (rows m c) (weights m c)

/-- A tile whose transform is the real part is the result's block. -/
theorem mixed_block (t : Fin cfg0.N) (ht : t.val < 64) (f : FVec Ideal S512x1024 .bf16)
    (hf : ∀ (a : Fin 512) (b : Fin 1024), f (ix2 a b) = realPart (rows m c) ⟨t.val / 4 / 2, by omega⟩ ⟨t.val % 4 * 512 + a.val, by omega⟩
      ⟨t.val / 4 % 2 * 8 + b.val / 128, by omega⟩ ⟨b.val % 128, by omega⟩) (a : Fin 512) (b : Fin 1024) :
    mixed f (iblk m c 4 t) (ix3 0 a b)
      = whole m c (ix3 ⟨t.val / 8, by omega⟩ ⟨t.val % 4 * 512 + a.val, by omega⟩ ⟨t.val / 4 % 2 * 1024 + b.val, by omega⟩) := by
  have e0 : t.val / 4 / 2 = t.val / 8 := by omega
  have e1 (k : Fin 128) : (b.val / 128 * 128 + k.val) / 128 = b.val / 128 := by omega
  have e2 (k : Fin 128) : (b.val / 128 * 128 + k.val) % 128 = k.val := by omega
  have e3 : (t.val / 4 % 2 * 1024 + b.val) / 128 = t.val / 4 % 2 * 8 + b.val / 128 := by omega
  have e4 : (t.val / 4 % 2 * 1024 + b.val) % 128 = b.val % 128 := by omega
  refine (mixed_ix3 f _ a b).trans ?_
  unfold whole
  rw [result_ix3]
  unfold channel
  refine Finset.sum_congr rfl fun k _ => congrArg₂ (· * ·) ((hf a _).trans ?_)
    ((weight_block m c t ⟨b.val / 128, by omega⟩ k ⟨b.val % 128, by omega⟩).trans ?_)
  · simp only [e0, e1 k, e2 k, e3]
  · simp only [e3, e4]

/-- A point's output block, at an index. -/
theorem block_at (t : Fin cfg0.N) (ht : t.val < 64) (a : Fin 512) (b : Fin 1024) :
    (outsAt0 m c t.val t.isLt).1 (ix3 0 a b)
      = whole m c (ix3 ⟨t.val / 8, by omega⟩ ⟨t.val % 4 * 512 + a.val, by omega⟩ ⟨t.val / 4 % 2 * 1024 + b.val, by omega⟩) := by
  by_cases h0 : t.val % 4 = 0
  · rw [outsAt0_A m c t h0]
    dsimp only
    rw [outA_at]
    exact mixed_block m c t ht _ (tile_real m c t ht _ _ (fill_at m c 0 _ cosC (left_table m c) t ht)
      (fill_at m c 128 _ sinC (right_table m c) t ht)) a b
  · rw [outsAt0_B m c t h0]
    dsimp only
    rw [outB_at]
    have e : (t.val - 1) / 4 = t.val / 4 := by omega
    have kept := scratch_at m c (t.val - 1) (by omega) (by omega)
    simp only [e] at kept
    exact mixed_block m c t ht _ (tile_real m c t ht _ _ (fun a b => (kept a b).1) (fun a b => (kept a b).2)) a b

/-- THE KERNEL'S RESULT. -/
theorem final : (dats m 0 c).arrAt 5 cfg0.N = whole m c := by
  refine (dats m 0 c).arrAt_eq_of_covers 5 _ (by decide +kernel) fun t _ y => ?_
  have ht : t.val < 64 := lt_of_lt_of_eq t.isLt N_0
  blk_simp
  rw [after0_5]
  idx_vars y
  obtain rfl : y0 = 0 := Subsingleton.elim _ _
  rw [block_at m c t ht]
  blk_ext [(idx t).2.2.2.2.2]

end Cert.FourIdeal.Fourier

end
-- ==== Proof.lean ====
/-
  THE CLAIMS, PROVED. The attention: Proof/Attention/Whole.lean says what the kernel's array ends holding,
  Proof/Attention/Reference.lean that the reference's is the same, Proof/Attention/Precondition.lean what the
  precondition gives. Every other call: one module says both (`final` and `reference_eq`).
-/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_queries_and_keys
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.FinalSampleRefIdeal
public import proofs.«01_k».proof.Proof.Gen.FinalSampleRefIdeal.Run
public import proofs.«01_k».proof.Proof.Gen.FinalSampleRefIdeal.Read
public import proofs.«01_k».proof.Proof.Gen.Four
public import proofs.«01_k».proof.Proof.Gen.Four.Frame
public import proofs.«01_k».proof.Proof.Gen.FourIdeal
public import proofs.«01_k».proof.Proof.Gen.FourIdeal.Frame
public import proofs.«01_k».proof.Proof.Gen.FourIdeal.Value
public import proofs.«01_k».proof.Proof.Gen.FourRefIdeal
public import proofs.«01_k».proof.Proof.Gen.FourRefIdeal.Run
public import proofs.«01_k».proof.Proof.Gen.FourRefIdeal.Read
public import proofs.«01_k».proof.Proof.Attention.Whole
public import proofs.«01_k».proof.Proof.Attention.Reference
public import proofs.«01_k».proof.Proof.Attention.Precondition
public import proofs.«01_k».proof.Proof.FeedForward.Up
public import proofs.«01_k».proof.Proof.FeedForward.Down
public import proofs.«01_k».proof.Proof.Norm.Final
public import proofs.«01_k».proof.Proof.Output.Out
public import proofs.«01_k».proof.Proof.Norm.Modulated
public import proofs.«01_k».proof.Proof.Modulation.Ada
public import proofs.«01_k».proof.Proof.Input.Project
public import proofs.«01_k».proof.Proof.Fourier.Mix
public import Idealize.ShloMosaic.Lib.Claim

@[expose] public section

set_option maxRecDepth 16384

noncomputable section

namespace Cert.Proof

open Idealize.ShloMosaic Idealize.SL.Sem

/-- The attention's reference ends with its argument unchanged; it declares no semaphore. -/
theorem attention_reference_frame : Cert.quiescent_AttnRefIdeal := fun m g _ =>
  (θ_run Cert.AttnRefIdeal.defs _ _).mono
    (fun r h => ⟨fun c => (h c).2, sem_eq_zero_of_no_sems (by decide) r.2⟩) (Cert.AttnRefIdeal.Value.run m g)

/-- The attention kernel and its reference end with equal results where the queries and the keys are real. -/
theorem attention : Cert.algebraic_AttnIdeal_AttnRefIdeal_pre_finite_queries_and_keys := by
  pair_intro
  · run_from Cert.AttnIdeal.Gen.run_main m g
  · run_from Cert.AttnRefIdeal.Value.run m' g'
    have hX := Cert.AttnIdeal.Precondition.real_of_fn _ (hpre c)
    rw [Cert.AttnIdeal.Whole.final m c hX, Cert.AttnRefIdeal.Read.val_main_v29_eq, hagree c]
    exact Cert.AttnRefIdeal.Attention.result_eq hX

theorem up_reference_frame : Cert.quiescent_UpRefIdeal := fun m g _ =>
  (θ_run Cert.UpRefIdeal.defs _ _).mono
    (fun r h => ⟨fun c => (h c).2, sem_eq_zero_of_no_sems (by decide) r.2⟩) (Cert.UpRefIdeal.Value.run m g)

/-- The feed-forward's first half: kernel and reference end with equal results. -/
theorem up : Cert.algebraic_UpIdeal_UpRefIdeal := by
  pair_intro
  · run_from Cert.UpIdeal.Gen.run_main m g
  · run_from Cert.UpRefIdeal.Value.run m' g'
    rw [Cert.UpIdeal.FeedForward.final, Cert.UpRefIdeal.Read.val_main_v9_eq]
    exact Cert.UpIdeal.FeedForward.reference_eq _ _ _

theorem down_reference_frame : Cert.quiescent_DownRefIdeal := fun m g _ =>
  (θ_run Cert.DownRefIdeal.defs _ _).mono
    (fun r h => ⟨fun c => (h c).2, sem_eq_zero_of_no_sems (by decide) r.2⟩) (Cert.DownRefIdeal.Value.run m g)

/-- The feed-forward's second half: kernel and reference end with equal results. -/
theorem down : Cert.algebraic_DownIdeal_DownRefIdeal := by
  pair_intro
  · run_from Cert.DownIdeal.Gen.run_main m g
  · run_from Cert.DownRefIdeal.Value.run m' g'
    rw [Cert.DownIdeal.FeedForward.final, Cert.DownRefIdeal.Read.val_main_v12_eq]
    exact Cert.DownIdeal.FeedForward.reference_eq _ _ _ _

theorem final_norm_reference_frame : Cert.quiescent_FinalRefIdeal := fun m g _ =>
  (θ_run Cert.FinalRefIdeal.defs _ _).mono
    (fun r h => ⟨fun c => (h c).2, sem_eq_zero_of_no_sems (by decide) r.2⟩) (Cert.FinalRefIdeal.Value.run m g)

/-- The final norm: kernel and reference end with equal results. -/
theorem final_norm : Cert.algebraic_FinalIdeal_FinalRefIdeal := by
  pair_intro
  · run_from Cert.FinalIdeal.Gen.run_main m g
  · run_from Cert.FinalRefIdeal.Value.run m' g'
    rw [Cert.FinalIdeal.Norm.final, Cert.FinalRefIdeal.Read.val_main_v14_eq]
    exact Cert.FinalIdeal.Norm.reference_eq _ _

theorem out_reference_frame : Cert.quiescent_OutRefIdeal := fun m g _ =>
  (θ_run Cert.OutRefIdeal.defs _ _).mono
    (fun r h => ⟨fun c => (h c).2, sem_eq_zero_of_no_sems (by decide) r.2⟩) (Cert.OutRefIdeal.Value.run m g)

/-- The output projection: kernel and reference end with equal results. -/
theorem out_proj : Cert.algebraic_OutIdeal_OutRefIdeal := by
  pair_intro
  · run_from Cert.OutIdeal.Gen.run_main m g
  · run_from Cert.OutRefIdeal.Value.run m' g'
    rw [Cert.OutIdeal.Output.final, Cert.OutRefIdeal.Read.val_main_v41_eq]
    exact Cert.OutIdeal.Output.reference_eq _ _ _ _ _ _ _

theorem sample_norm_reference_frame : Cert.quiescent_FinalSampleRefIdeal := fun m g _ =>
  (θ_run Cert.FinalSampleRefIdeal.defs _ _).mono
    (fun r h => ⟨fun c => (h c).2, sem_eq_zero_of_no_sems (by decide) r.2⟩) (Cert.FinalSampleRefIdeal.Value.run m g)

/-- The sample's norm, the same kernel against the reference's lines of the sample: kernel and reference end with equal results. -/
theorem sample_norm : Cert.algebraic_FinalIdeal_FinalSampleRefIdeal := by
  pair_intro
  · run_from Cert.FinalIdeal.Gen.run_main m g
  · run_from Cert.FinalSampleRefIdeal.Value.run m' g'
    rw [Cert.FinalIdeal.Norm.final, Cert.FinalSampleRefIdeal.Read.val_main_v14_eq]
    exact Cert.FinalIdeal.Norm.sample_reference_eq _ _

theorem ada_reference_frame : Cert.quiescent_AdaRefIdeal := fun m g _ =>
  (θ_run Cert.AdaRefIdeal.defs _ _).mono
    (fun r h => ⟨fun c => (h c).2, sem_eq_zero_of_no_sems (by decide) r.2⟩) (Cert.AdaRefIdeal.Value.run m g)

/-- The modulation's rows: kernel and reference end with equal results. -/
theorem ada : Cert.algebraic_AdaIdeal_AdaRefIdeal := by
  pair_intro
  · run_from Cert.AdaIdeal.Gen.run_main m g
  · run_from Cert.AdaRefIdeal.Value.run m' g'
    rw [Cert.AdaIdeal.Modulation.final, Cert.AdaRefIdeal.Read.val_main_v20_eq, (hagree c).2.2]
    exact Cert.AdaIdeal.Modulation.reference_eq _ _ _

theorem modulated_norm_reference_frame : Cert.quiescent_ModRefIdeal := fun m g _ =>
  (θ_run Cert.ModRefIdeal.defs _ _).mono
    (fun r h => ⟨fun c => (h c).2, sem_eq_zero_of_no_sems (by decide) r.2⟩) (Cert.ModRefIdeal.Value.run m g)

/-- The modulated norm: kernel and reference end with equal results. -/
theorem modulated_norm : Cert.algebraic_ModIdeal_ModRefIdeal := by
  pair_intro
  · run_from Cert.ModIdeal.Gen.run_main m g
  · run_from Cert.ModRefIdeal.Value.run m' g'
    rw [Cert.ModIdeal.Norm.final, Cert.ModRefIdeal.Read.val_main_v27_eq]
    exact Cert.ModIdeal.Norm.reference_eq _ _ _

theorem in_proj_reference_frame : Cert.quiescent_InRefIdeal := fun m g _ =>
  (θ_run Cert.InRefIdeal.defs _ _).mono
    (fun r h => ⟨fun c => (h c).2, sem_eq_zero_of_no_sems (by decide) r.2⟩) (Cert.InRefIdeal.Value.run m g)

/-- The literal on the input projection's queries is named. -/
theorem in_proj_preserves : Cert.preserves_In_InIdeal :=
  IdealRules.named_const.statement Cert.InIdeal.κ "query_scale" .f32 0x3E0293EE#32 _ rfl

/-- The input projection: kernel and reference end with equal results. -/
theorem in_proj : Cert.algebraic_InIdeal_InRefIdeal := by
  pair_intro
  · run_from Cert.InIdeal.Gen.run_main m g
  · run_from Cert.InRefIdeal.Value.run m' g'
    rw [Cert.InIdeal.Input.final, Cert.InRefIdeal.Read.val_main_v112_eq, Cert.InIdeal.Input.whole]
    obtain ⟨h0, h1, h2, h3, h4, h5, h6, h7⟩ := hagree c
    rw [h0, h1, h2, h3, h4, h5, h6, h7]
    exact Cert.InIdeal.Input.reference_eq _ _ _ _ _ _ _ _

theorem fourier_reference_frame : Cert.quiescent_FourRefIdeal := fun m g _ =>
  (θ_run Cert.FourRefIdeal.defs _ _).mono
    (fun r h => ⟨fun c => (h c).2, sem_eq_zero_of_no_sems (by decide) r.2⟩) (Cert.FourRefIdeal.Value.run m g)

/-- The Fourier mixing: kernel and reference end with equal results. -/
theorem fourier : Cert.algebraic_FourIdeal_FourRefIdeal := by
  pair_intro
  · run_from Cert.FourIdeal.Gen.run_main m g
    exact Cert.FourIdeal.Gen.V_main_arg1 m c
  · run_from Cert.FourRefIdeal.Value.run m' g'
    rw [Cert.FourIdeal.Fourier.final, Cert.FourRefIdeal.Read.val_main_v41_eq, Cert.FourIdeal.Fourier.whole]
    obtain ⟨h0, h1⟩ := hagree c
    rw [h0, h1]
    exact Cert.FourIdeal.Fourier.reference_eq _ _

theorem claim : Cert.Claim :=
  ⟨Cert.Attn.Gen.facts, Cert.AttnIdeal.Gen.facts, Cert.AttnRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Final.Gen.facts, Cert.FinalIdeal.Gen.facts, Cert.FinalRefIdeal.Gen.facts,
    Cert.Out.Gen.facts, Cert.OutIdeal.Gen.facts, Cert.OutRefIdeal.Gen.facts,
    Cert.FinalSampleRefIdeal.Gen.facts,
    Cert.Ada.Gen.facts, Cert.AdaIdeal.Gen.facts, Cert.AdaRefIdeal.Gen.facts,
    Cert.Mod.Gen.facts, Cert.ModIdeal.Gen.facts, Cert.ModRefIdeal.Gen.facts,
    Cert.In.Gen.facts, Cert.InIdeal.Gen.facts, Cert.InRefIdeal.Gen.facts,
    Cert.Four.Gen.facts, Cert.FourIdeal.Gen.facts, Cert.FourRefIdeal.Gen.facts,
    Cert.Pre_finite_queries_and_keys.Gen.facts,
    fun m g _ => Cert.Attn.Gen.frame m g,
    fun m g _ => Cert.AttnIdeal.Gen.frame m g,
    fun m g _ => Cert.AttnIdeal.Gen.frame m g,
    attention_reference_frame,
    fun m g _ => attention_reference_frame m g trivial,
    fun m g _ => Cert.Up.Gen.frame m g, fun m g _ => Cert.UpIdeal.Gen.frame m g, up_reference_frame,
    fun m g _ => Cert.Down.Gen.frame m g, fun m g _ => Cert.DownIdeal.Gen.frame m g, down_reference_frame,
    fun m g _ => Cert.Final.Gen.frame m g, fun m g _ => Cert.FinalIdeal.Gen.frame m g, final_norm_reference_frame,
    fun m g _ => Cert.Out.Gen.frame m g, fun m g _ => Cert.OutIdeal.Gen.frame m g, out_reference_frame,
    sample_norm_reference_frame,
    fun m g _ => Cert.Ada.Gen.frame m g, fun m g _ => Cert.AdaIdeal.Gen.frame m g, ada_reference_frame,
    fun m g _ => Cert.Mod.Gen.frame m g, fun m g _ => Cert.ModIdeal.Gen.frame m g, modulated_norm_reference_frame,
    fun m g _ => Cert.In.Gen.frame m g, fun m g _ => Cert.InIdeal.Gen.frame m g, in_proj_reference_frame,
    fun m g _ => Cert.Four.Gen.frame m g, fun m g _ => Cert.FourIdeal.Gen.frame m g, fourier_reference_frame,
    trivial, attention,
    trivial, up,
    trivial, down,
    trivial, final_norm,
    trivial, out_proj,
    sample_norm,
    trivial, ada,
    trivial, modulated_norm,
    in_proj_preserves, in_proj,
    trivial, fourier⟩

end Cert.Proof

end
